-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x96x384x384 : Shape := ⟨4, ![4, 96, 384, 384]⟩
abbrev S4x576 : Shape := ⟨2, ![4, 576]⟩
abbrev S_ : Shape := ⟨0, ![]⟩

class Facts : Prop where
  bcast_S_S4x576 : S_.BroadcastsInDim S4x576 (![] : Fin 0 → Fin S4x576.rank)
  reducesTo_S4x576_S_d0_1 : S4x576.ReducesTo [0, 1] S_
  h_S_ : 0 < S_.numel

variable [Facts]

def fn {F : FTy → Type} [FloatOps F] (main_arg0 : FVec F S4x96x384x384 .f32) (main_arg1 : IVec S4x576 32) : IVec S_ 1 :=
  let main_c : IVec S_ 32 := constantI S_ 32 0#32
  let main_v0 : IVec S4x576 32 := broadcastInDim S4x576 ![] bcast_S_S4x576 main_c
  let main_v1 : IVec S4x576 1 := cmpi .sge main_arg1 main_v0
  let main_c_0 : IVec S_ 32 := constantI S_ 32 576#32
  let main_v2 : IVec S4x576 32 := broadcastInDim S4x576 ![] bcast_S_S4x576 main_c_0
  let main_v3 : IVec S4x576 1 := cmpi .slt main_arg1 main_v2
  let main_v4 : IVec S4x576 1 := andi main_v1 main_v3
  let main_c_1 : IVec S_ 1 := constantI S_ 1 1#1
  let main_v5 : IVec S_ 1 := (fun x v => Host.reduce IntOp.andi x v reducesTo_S4x576_S_d0_1 h_S_) main_v4 main_c_1
  main_v5
-- ==== Kernel.lean ====
abbrev S4x96x384x384 : Shape := ⟨4, ![4, 96, 384, 384]⟩
abbrev S4x576 : Shape := ⟨2, ![4, 576]⟩
abbrev S3538944x16 : Shape := ⟨2, ![3538944, 16]⟩
abbrev S2304 : Shape := ⟨1, ![2304]⟩
abbrev S9216 : Shape := ⟨1, ![9216]⟩
abbrev S3072x16 : Shape := ⟨2, ![3072, 16]⟩
abbrev S_ : Shape := ⟨0, ![]⟩
abbrev S16 : Shape := ⟨1, ![16]⟩
abbrev S256x16 : Shape := ⟨2, ![256, 16]⟩
abbrev S256 : Shape := ⟨1, ![256]⟩
abbrev S9216x16 : Shape := ⟨2, ![9216, 16]⟩

abbrev nBuf : Table → Nat
  | .hbm => 6
  | .local .scVector .vmem => 4
  | _ => 0

abbrev bufTy : (tb : Table) → Fin (nBuf tb) → BufTy
  | .hbm, ⟨0, _⟩ => ⟨S4x96x384x384, .f32⟩
  | .hbm, ⟨1, _⟩ => ⟨S4x576, .i32⟩
  | .hbm, ⟨2, _⟩ => ⟨S3538944x16, .f32⟩
  | .hbm, ⟨3, _⟩ => ⟨S2304, .i32⟩
  | .hbm, ⟨4, _⟩ => ⟨S3538944x16, .f32⟩
  | .hbm, ⟨5, _⟩ => ⟨S4x96x384x384, .f32⟩
  | .local .scVector .vmem, ⟨0, _⟩ => ⟨S2304, .i32⟩
  | .local .scVector .vmem, ⟨1, _⟩ => ⟨S9216, .i32⟩
  | .local .scVector .vmem, ⟨2, _⟩ => ⟨S3072x16, .f32⟩
  | .local .scVector .vmem, ⟨3, _⟩ => ⟨S3072x16, .f32⟩
  | _, _ => ⟨S4x96x384x384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c576_i32 : BitVec 32 := 576#32
  let v21 : BitVec 32 := Scalar.addi c0_i32_5 c576_i32
  let c1_i32_6 : BitVec 32 := 1#32
  ⟨c0_i32_5, v21, c1_i32_6⟩

def k0_chk1 (v43 : IVec S16 32) : Prop :=
  (∀ a x, ((![v43] : Fin 1 → IVec S16 32) a x).toNat < S2304.size a)
theorem k0_idx1_inb : ∀ (v43 : IVec S16 32) (k0_hw1 : k0_chk1 v43), ∀ a x, ((![v43] : Fin 1 → IVec S16 32) a x).toNat < S2304.size a := fun v43 k0_hw1 => k0_hw1
def k0_off1 (k0_t1 : Fin k0_t1_loop.trips) : Fin 1 → Nat :=
  let c0_i32_5 : BitVec 32 := 0#32
  let c1_i32_6 : BitVec 32 := 1#32
  let arg12 : BitVec 32 := Scf.iv c0_i32_5 c1_i32_6 k0_t1
  let c16_i32_25 : BitVec 32 := 16#32
  let v55 : BitVec 32 := Scalar.muli arg12 c16_i32_25
  let v56 : Index := Scalar.indexCast v55
  ![v56.toNat]
@[reducible] def k0_t2_loop : Scf.Loop 32 :=
  let c0_i32_9 : BitVec 32 := 0#32
  let c18_i32 : BitVec 32 := 18#32
  let v22 : BitVec 32 := Scalar.addi c0_i32_9 c18_i32
  let c1_i32_10 : BitVec 32 := 1#32
  ⟨c0_i32_9, v22, c1_i32_10⟩
def k0_cond1 (k0_t2 : Fin k0_t2_loop.trips) : BitVec 1 :=
  let c0_i32_9 : BitVec 32 := 0#32
  let c1_i32_10 : BitVec 32 := 1#32
  let arg12 : BitVec 32 := Scf.iv c0_i32_9 c1_i32_10 k0_t2
  let c2_i32_16 : BitVec 32 := 2#32
  let v27 : BitVec 32 := Scalar.muli arg12 c2_i32_16
  let c0_i32_17 : BitVec 32 := 0#32
  let v28 : BitVec 32 := Scalar.addi v27 c0_i32_17
  let c2_i32_20 : BitVec 32 := 2#32
  let v34 : BitVec 1 := Scalar.cmpi .sge v28 c2_i32_20
  let v35 : BitVec 32 := Scalar.extui v34
  let c0_i32_21 : BitVec 32 := 0#32
  let v36 : BitVec 1 := Scalar.cmpi .ne v35 c0_i32_21
  v36

def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_9 : BitVec 32 := 0#32
  let c1_i32_10 : BitVec 32 := 1#32
  let arg12 : BitVec 32 := Scf.iv c0_i32_9 c1_i32_10 k0_t2
  let c2_i32_16 : BitVec 32 := 2#32
  let v27 : BitVec 32 := Scalar.muli arg12 c2_i32_16
  let c0_i32_17 : BitVec 32 := 0#32
  let v28 : BitVec 32 := Scalar.addi v27 c0_i32_17
  let c3072_i32 : BitVec 32 := 3072#32
  let v29 : BitVec 32 := Scalar.muli v28 c3072_i32
  let v30 : BitVec 32 := Scalar.addi v2 v29
  let c0_i32_311 : BitVec 32 := 0#32
  ![v30.toNat, 0]
def k0_off3 (i : grid0.Coords) (k0_t2 : Fin k0_t2_loop.trips) (c0_i32_17 : BitVec 32) (c0_i32_22 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_9 : BitVec 32 := 0#32
  let c1_i32_10 : BitVec 32 := 1#32
  let arg12 : BitVec 32 := Scf.iv c0_i32_9 c1_i32_10 k0_t2
  let c2_i32_16 : BitVec 32 := 2#32
  let v27 : BitVec 32 := Scalar.muli arg12 c2_i32_16
  let v28 : BitVec 32 := Scalar.addi v27 c0_i32_17
  let c3072_i32 : BitVec 32 := 3072#32
  let v29 : BitVec 32 := Scalar.muli v28 c3072_i32
  let v30 : BitVec 32 := Scalar.addi v2 v29
  let c9216_i32_19 : BitVec 32 := 9216#32
  let v33 : BitVec 32 := Scalar.remsi v30 c9216_i32_19
  let v37 : BitVec 32 := Scalar.addi v33 c0_i32_22
  ![v37.toNat]
def k0_off4 (i : grid0.Coords) (k0_t2 : Fin k0_t2_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_9 : BitVec 32 := 0#32
  let c1_i32_10 : BitVec 32 := 1#32
  let arg12 : BitVec 32 := Scf.iv c0_i32_9 c1_i32_10 k0_t2
  let c2_i32_16 : BitVec 32 := 2#32
  let v27 : BitVec 32 := Scalar.muli arg12 c2_i32_16
  let v28 : BitVec 32 := Scalar.addi v27 c0_i32_17
  let c3072_i32 : BitVec 32 := 3072#32
  let v29 : BitVec 32 := Scalar.muli v28 c3072_i32
  let v30 : BitVec 32 := Scalar.addi v2 v29
  let c9216_i32 : BitVec 32 := 9216#32
  let v31 : BitVec 32 := Scalar.divsi v30 c9216_i32
  let c9216_i32_18 : BitVec 32 := 9216#32
  let v32 : BitVec 32 := Scalar.muli v31 c9216_i32_18
  let c0_i32_25 : BitVec 32 := 0#32
  ![v32.toNat, 0]
def k0_off5 (i : grid0.Coords) (k0_t2 : Fin k0_t2_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_9 : BitVec 32 := 0#32
  let c1_i32_10 : BitVec 32 := 1#32
  let arg12 : BitVec 32 := Scf.iv c0_i32_9 c1_i32_10 k0_t2
  let c2_i32_16 : BitVec 32 := 2#32
  let v27 : BitVec 32 := Scalar.muli arg12 c2_i32_16
  let v28 : BitVec 32 := Scalar.addi v27 c0_i32_17
  let c3072_i32 : BitVec 32 := 3072#32
  let v29 : BitVec 32 := Scalar.muli v28 c3072_i32
  let v30 : BitVec 32 := Scalar.addi v2 v29
  let c0_i32_155 : BitVec 32 := 0#32
  ![v30.toNat, 0]
def k0_cond2 (k0_t2 : Fin k0_t2_loop.trips) : BitVec 1 :=
  let c0_i32_9 : BitVec 32 := 0#32
  let c1_i32_10 : BitVec 32 := 1#32
  let arg12 : BitVec 32 := Scf.iv c0_i32_9 c1_i32_10 k0_t2
  let c2_i32_157 : BitVec 32 := 2#32
  let v159 : BitVec 32 := Scalar.muli arg12 c2_i32_157
  let c1_i32_158 : BitVec 32 := 1#32
  let v160 : BitVec 32 := Scalar.addi v159 c1_i32_158
  let c2_i32_163 : BitVec 32 := 2#32
  let v166 : BitVec 1 := Scalar.cmpi .sge v160 c2_i32_163
  let v167 : BitVec 32 := Scalar.extui v166
  let c0_i32_164 : BitVec 32 := 0#32
  let v168 : BitVec 1 := Scalar.cmpi .ne v167 c0_i32_164
  v168

def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_9 : BitVec 32 := 0#32
  let c1_i32_10 : BitVec 32 := 1#32
  let arg12 : BitVec 32 := Scf.iv c0_i32_9 c1_i32_10 k0_t2
  let c2_i32_157 : BitVec 32 := 2#32
  let v159 : BitVec 32 := Scalar.muli arg12 c2_i32_157
  let c1_i32_158 : BitVec 32 := 1#32
  let v160 : BitVec 32 := Scalar.addi v159 c1_i32_158
  let c3072_i32_159 : BitVec 32 := 3072#32
  let v161 : BitVec 32 := Scalar.muli v160 c3072_i32_159
  let v162 : BitVec 32 := Scalar.addi v2 v161
  let c0_i32_311 : BitVec 32 := 0#32
  ![v162.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110592_i32 : BitVec 32 := 110592#32
  let v2 : BitVec 32 := Scalar.muli v1 c110592_i32
  let c0_i32_12 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x576 : Shape := ⟨2, ![4, 576]⟩
abbrev S4x96x24x16x24x16 : Shape := ⟨6, ![4, 96, 24, 16, 24, 16]⟩
abbrev S4x24x24x96x16x16 : Shape := ⟨6, ![4, 24, 24, 96, 16, 16]⟩
abbrev S4x576x96x16x16 : Shape := ⟨5, ![4, 576, 96, 16, 16]⟩
abbrev S4x576x1x1x1 : Shape := ⟨5, ![4, 576, 1, 1, 1]⟩
abbrev S_ : Shape := ⟨0, ![]⟩
abbrev S4x576x1 : Shape := ⟨3, ![4, 576, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S4x576, .i32⟩
  | .hbm, ⟨2, _⟩ => ⟨S4x96x24x16x24x16, .f32⟩
  | .hbm, ⟨3, _⟩ => ⟨S4x24x24x96x16x16, .f32⟩
  | .hbm, ⟨4, _⟩ => ⟨S4x576x96x16x16, .f32⟩
  | .hbm, ⟨5, _⟩ => ⟨S4x576x1x1x1, .i32⟩
  | .hbm, ⟨6, _⟩ => ⟨S_, .i32⟩
  | .hbm, ⟨7, _⟩ => ⟨S4x576x1x1x1, .i32⟩
  | .hbm, ⟨8, _⟩ => ⟨S4x576x1x1x1, .i1⟩
  | .hbm, ⟨9, _⟩ => ⟨S_, .i32⟩
  | .hbm, ⟨10, _⟩ => ⟨S4x576x1x1x1, .i32⟩
  | .hbm, ⟨11, _⟩ => ⟨S4x576x1x1x1, .i32⟩
  | .hbm, ⟨12, _⟩ => ⟨S4x576x1x1x1, .i32⟩
  | .hbm, ⟨13, _⟩ => ⟨S4x576x1, .i32⟩
  | .hbm, ⟨14, _⟩ => ⟨S1, .i32⟩
  | .hbm, ⟨15, _⟩ => ⟨S_, .i32⟩
  | .hbm, ⟨16, _⟩ => ⟨S4x576x1, .i32⟩
  | .hbm, ⟨17, _⟩ => ⟨S4x576x1, .i1⟩
  | .hbm, ⟨18, _⟩ => ⟨S1x1x1, .i32⟩
  | .hbm, ⟨19, _⟩ => ⟨S4x576x1, .i32⟩
  | .hbm, ⟨20, _⟩ => ⟨S4x576x1, .i1⟩
  | .hbm, ⟨21, _⟩ => ⟨S4x576x1, .i1⟩
  | .hbm, ⟨22, _⟩ => ⟨S_, .i1⟩
  | .hbm, ⟨23, _⟩ => ⟨S4x576, .i1⟩
  | .hbm, ⟨24, _⟩ => ⟨S4x576x96x16x16, .f32⟩
  | .hbm, ⟨25, _⟩ => ⟨S4x576x96x16x16, .i1⟩
  | .hbm, ⟨26, _⟩ => ⟨S_, .f32⟩
  | .hbm, ⟨27, _⟩ => ⟨S4x576x96x16x16, .f32⟩
  | .hbm, ⟨28, _⟩ => ⟨S4x576x96x16x16, .f32⟩
  | .hbm, ⟨29, _⟩ => ⟨S4x24x24x96x16x16, .f32⟩
  | .hbm, ⟨30, _⟩ => ⟨S4x96x24x16x24x16, .f32⟩
  | .hbm, ⟨31, _⟩ => ⟨S4x96x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩

abbrev nD : Nat := 1
abbrev τ : Topo := Topo.v7x

variable {F : FTy → Type} [FloatOps F]
-- ==== Proof.Shuffle.lean ====
/-
  The shuffle as arithmetic on row numbers, apart from any program.

  The image batch is read as rows of sixteen numbers: `4` images of `96` channels of `384` lines of `24` rows each. A
  plane (one channel of one image) is therefore `9216` rows, an image `884736`. Row `j` of a plane lies in the patch
  whose grid coordinates are `(j / 384, j % 24)`, on line `j / 24 % 16` of that patch. The shuffle fills the patch at
  grid position `n` of image `b` from the patch `p (576 * b + n)` of the same image.
-/
module

public import Idealize.ShloMosaic.Lib.Routing.Words
public import Mathlib.Tactic.Ring
public import Mathlib.Tactic.Linarith

@[expose] public section

namespace Cert.Proof.Shuffle

/-- The grid position, in reading order, of the patch that row `j` of a plane belongs to. -/
def gridPos (j : ℕ) : ℕ := j / 384 * 24 + j % 24

/-- The row of a plane which row `j` is filled from, when its patch is filled from patch `s` of the same plane. -/
def patchRow (s j : ℕ) : ℕ := (s / 24 * 16 + j / 24 % 16) * 24 + s % 24

/-- The row of the whole batch which row `r` is filled from, `p` being the permutations of the four images one after
    another. -/
def srcRow (p : ℕ → ℕ) (r : ℕ) : ℕ := r / 9216 * 9216 + patchRow (p (r / 884736 * 576 + gridPos (r % 9216))) (r % 9216)

/-- The grid position of a row of a plane is one of the `576`. -/
theorem gridPos_lt {j : ℕ} (h : j < 9216) : gridPos j < 576 := by unfold gridPos; omega

/-- The row read lies in the plane when the patch number is one of the `576`. -/
theorem patchRow_lt {s j : ℕ} (h : s < 576) : patchRow s j < 9216 := by unfold patchRow; omega

/-- The position of row `r`'s entry in the four permutations. -/
theorem entry_lt {r : ℕ} (h : r < 3538944) : r / 884736 * 576 + gridPos (r % 9216) < 2304 := by
  have := gridPos_lt (j := r % 9216) (Nat.mod_lt _ (by decide)); omega

/-- The row read lies in the batch. -/
theorem srcRow_lt {p : ℕ → ℕ} (hp : ∀ n, p n < 576) {r : ℕ} (h : r < 3538944) : srcRow p r < 3538944 := by
  unfold srcRow; have := patchRow_lt (s := p (r / 884736 * 576 + gridPos (r % 9216))) (j := r % 9216) (hp _); omega

end Cert.Proof.Shuffle
-- ==== Proof.GatherBatch.lean ====
/-
  Several indirect gathers outstanding at once on ONE DMA semaphore.

  A tile starts `m` gathers of `o` rows each on one semaphore before it waits for any of them, then waits `m` times. The
  engine serves the rows of the `m` streams in any order, so a single wait says only that some `o` rows' worth of units
  has arrived. The whole is treated as ONE BATCH OF ROWS (`Transfers.Batch`): `n = m · o` row transfers of the same
  number `N` of units on one cell, row `t` delivering `D t`. Each gather's start hands the batch `o` more rows; the
  waits before the last consume `o · N` units each and hand nothing back; the last finds every unit consumed, so every
  row has landed.

  This file is the missing step: the gather's START inside such a batch (`wp_gatherInBatch`).
-/
module

public import Idealize.ShloMosaic.Lib.SparseCore.Stream
public import Idealize.ShloMosaic.Lib.Batch

@[expose] public section

noncomputable section

namespace Cert.Proof.GatherBatch

open Idealize.ShloMosaic
open Idealize.ShloMosaic.Transfers (pending Batch batchBody)
open Idealize.SL Idealize.SL.RA Idealize.SL.BI
open scoped Idealize.SL.BI
open Idealize.SL.BI.BIBase Idealize.SL.BI.Laws Idealize.SL.ProofMode Idealize.SL.Sem
open Idealize.ShloMosaic.SparseCore

section Split

variable {M : Type} [URA M] {n : ℕ}

/-- Row `j` of the block of `o` rows that starts at row `k`, as a row of the `n`. -/
def inBlock (k o : ℕ) (h : k + o ≤ n) : Fin o ↪ Fin n where
  toFun j := ⟨k + j.val, by omega⟩
  inj' a b hab := Fin.ext (by have := congrArg Fin.val hab; dsimp only at this; omega)

/-- The rows from the `k`-th on are the next `o` of them and the rows from the `(k + o)`-th on. -/
theorem bigSep_pending_block (Φ : Fin n → sProp M) (k o : ℕ) (h : k + o ≤ n) :
    bigSep (pending k) Φ = iprop((bigSep Finset.univ fun j : Fin o => Φ (inBlock k o h j)) ∗ bigSep (pending (k + o)) Φ) := by
  classical
  have hs : pending (n := n) k = Finset.univ.map (inBlock k o h) ∪ pending (k + o) := by
    ext t
    simp only [pending, Finset.mem_union, Finset.mem_map, Finset.mem_filter, Finset.mem_univ, _root_.true_and]
    constructor
    · intro hk
      by_cases ht : k + o ≤ t.val
      · exact .inr ht
      · exact .inl ⟨⟨t.val - k, by omega⟩, Fin.ext (by change k + (t.val - k) = t.val; omega)⟩
    · rintro (⟨j, rfl⟩ | h')
      · exact Nat.le_add_right _ _
      · omega
  have hd : Disjoint (Finset.univ.map (inBlock k o h)) (pending (n := n) (k + o)) := by
    rw [Finset.disjoint_left]
    simp only [pending, Finset.mem_map, Finset.mem_filter, Finset.mem_univ, _root_.true_and]
    rintro t ⟨j, rfl⟩ h'
    change k + o ≤ k + j.val at h'
    omega
  rw [hs, BI.bigSep_union hd, BI.bigSep_map]
  rfl

end Split

section Issue

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- An indirect gather started inside a batch of `n` rows of `N` units on its semaphore, `k` rows started before it and
    none of their units consumed: row `j` of the gather is the batch's row `k + j`. `Rin t` is what the tile holds for
    row `t` before its start: for the gather's own rows the destination row outright, the list element that names its
    source row, and a share of the source (`hRin`). Written with the source row the list names, these make what the
    batch's row delivers (`hD`). The tile continues with the batch at `k + o` rows started. -/
theorem wp_gatherInBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {n : ℕ} (ι : Ix) (N : ℕ) (D Rin : Fin n → sProp 𝕄) (u₀ : ℕ) (hu : u₀ + s.size hg.axis' ≤ n)
    (q : Fin (s.size hg.axis') → PosShare TreeShare) {qo : PosShare TreeShare} {fs : Buf (Elt F) (src.view.loc c)} {fd : Buf (Elt F) (dst.view.loc c)}
    {fo : Buf (Elt F) (offs.view.loc c)}
    (hN : ∀ j, (dst.slice (s.rowRect hg.axis' j) (s.stride_rowRect hg.axis' j)).view.dmaCredit = N)
    (hin : ∀ x, (offs.view.read (Elt F) fo x).toNat < s₀.size hg.axis)
    (hRin : ∀ j : Fin (s.size hg.axis'), Rin (inBlock u₀ _ hu j) ⊢ iprop((dst.view.loc c ↦[(dst.view.slice (s.rowRect hg.axis' j)).set]{fullShare} fd)
        ∗ (offs.view.loc c ↦[{offs.view.emb (si.rowMajor.symm (j.cast hn.symm))}]{qo} fo) ∗ (src.view.loc c ↦[src.view.set]{q j} fs)))
    (hD : ∀ j : Fin (s.size hg.axis'), iprop((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
        ∗ (offs.view.loc c ↦[{offs.view.emb (si.rowMajor.symm (j.cast hn.symm))}]{qo} fo) ∗ (src.view.loc c ↦[src.view.set]{q j} fs))
      ⊢ D (inBlock u₀ _ hu j)) :
    iprop(Batch EC c (.dma sem) ι N D u₀ 0 ∗ bigSep (pending u₀) Rin)
      ⊢ iprop((iprop(Batch EC c (.dma sem) ι N D (u₀ + s.size hg.axis') 0 ∗ bigSep (pending (u₀ + s.size hg.axis')) Rin)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have htot : ∑ j : Fin (s.size hg.axis'), (dst.slice (s.rowRect hg.axis' j) (s.stride_rowRect hg.axis' j)).view.dmaCredit = s.size hg.axis' * N :=
    sum_rowCredit_eq _ hN rfl
  unfold Batch
  iintro ⟨⟨%γ, %γ₀, %κ, #Hinv, HI, H0, Hcred⟩, HR⟩ Hk
  ihave HI' := (Entails.of_eq (bigSep_pending_block (fun t => count EC (γ t) 0) u₀ _ hu)) $$ HI
  ihave HR' := (Entails.of_eq (bigSep_pending_block Rin u₀ _ hu)) $$ HR
  icases HI' with ⟨HI, HIrest⟩
  icases HR' with ⟨HR, HRrest⟩
  iapply (wp_enqueueIndirectDma 𝒱 c bd Set.univ (qo := qo) (fo := fo) (rd := rd) ι (s.size hg.axis' * N) hA hrd htot) $$ [HI HR]
  · have hrow : ∀ j : Fin (s.size hg.axis'), iprop(inv κ (batchBody EC (c, SemLoc.dma sem) N D γ γ₀)
          ∗ (Rin (inBlock u₀ _ hu j) ∗ count EC (γ (inBlock u₀ _ hu j)) 0))
        ⊢ iprop(S.heldEntry qo fo j ∗ (S.heldEntry qo fo j -∗ rowRes c (rd j))) := fun j => by
      iintro ⟨#Hinv, HRj, Hγj⟩
      ihave HRj' := (hRin j) $$ HRj
      icases HRj' with ⟨Hr, He, Hsq⟩
      isplitl [He]; · iexact He
      iintro He
      unfold rowRes
      iexists q j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hamt : (rd j).dst.view.amount (.dma sem) = N := hN j
        rw [hamt]
        iapply (Transfers.batch_creditUpdate EC (N := N) (D := D) (γ := γ) (γ₀ := γ₀) (ι := κ) (inBlock u₀ _ hu j)
          ((sep_assoc.1).trans (hD j)))
        isplitr; · iexact Hinv
        iexact Hγj
    unfold Stream.res
    ihave H1 := Transfers.bigSep_sep_in _ _ _ $$ [HR HI]; · isplitl [HR] <;> iassumption
    iapply (Transfers.bigSep_mono_pers Finset.univ _ _ _ fun j _ => hrow j)
    isplitr; · iexact Hinv
    iexact H1
  · iintro Hc
    iapply Hk
    isplitr [HRrest]
    · iexists γ, γ₀, κ
      isplitr; · iexact Hinv
      isplitl [HIrest]; · iexact HIrest
      isplitl [H0]; · iexact H0
      rw [Nat.sub_zero, Nat.sub_zero, Nat.add_mul, ← tallyAt_add]
      isplitl [Hcred] <;> iassumption
    · iexact HRrest

end Issue

end Cert.Proof.GatherBatch

end
-- ==== Proof.Chunk.lean ====
/-
  One chunk of the shuffle: a buffer of `3072` rows filled by twelve indirect gathers of `256` rows each, all on one
  semaphore, all reading one plane of `9216` rows at the row numbers a list holds.

  The chunk is a batch of `3072` row transfers (GatherBatch.lean). `rowRes f t` is what the tile holds for row `t`: the
  row of the buffer at contents `f`, the list's entry for it, and a small share of the plane. Started at the buffer's
  old contents, the row's transfer delivers the same at the new ones. `rowRes_all` puts the `3072` rows together and
  takes them apart; `wp_startGather` starts the `j`-th gather.
-/
module

public import proofs.«01_k».proof.Proof.GatherBatch
public import Idealize.ShloMosaic.Lib.Pointwise.Index

@[expose] public section

noncomputable section

namespace Cert.Proof.Chunk

open Idealize.ShloMosaic
open Idealize.ShloMosaic.Transfers (pending Batch)
open Idealize.SL Idealize.SL.RA Idealize.SL.BI
open scoped Idealize.SL.BI
open Idealize.SL.BI.BIBase Idealize.SL.BI.Laws Idealize.SL.ProofMode Idealize.SL.Sem
open Idealize.ShloMosaic.SparseCore
open Cert.Proof.GatherBatch

/-- A chunk's rows; a gather's; a plane's; the list of row numbers; a gather's window of it. -/
abbrev SSlot : Shape := ⟨2, ![3072, 16]⟩
abbrev SBlk : Shape := ⟨2, ![256, 16]⟩
abbrev SPlane : Shape := ⟨2, ![9216, 16]⟩
abbrev SList : Shape := ⟨1, ![9216]⟩
abbrev SWin : Shape := ⟨1, ![256]⟩

variable {nD : Nat} {τ : Topo} {sig : RefSig} {Ix : Type} [DecidableEq Ix]
variable {F : FTy → Type} {Name : Type} [DecidableEq Name]
variable {U : Type} [URA U] {Lvl : Type} [Preorder Lvl]

local notation "𝕄" => MT nD τ sig Ix (Elt F) Name U Lvl

variable (c : Thread nD τ) {sp : Space}
variable (slot : Memref sig c.2.kind .vmem SSlot .f32) (list : Memref sig c.2.kind .vmem SList .i32) (src : Memref sig c.2.kind sp SPlane .f32)
variable (off : ℕ) (hoff : off + 3072 ≤ 9216) (q : PosShare TreeShare)
variable (fo : Buf (Elt F) (list.view.loc c)) (fs : Buf (Elt F) (src.view.loc c))

/-- The list's entry for row `t` of the chunk. -/
def entry (t : Fin 3072) : SList.Idx := ix1 ⟨off + t.val, by omega⟩

/-- What the tile holds for row `t`: the buffer's row at contents `f`, the list's entry for it, a share of the plane. -/
def rowRes (f : Buf (Elt F) (slot.view.loc c)) (t : Fin 3072) : sProp 𝕄 :=
  iprop((slot.view.loc c ↦[(slot.view.slice (SSlot.rowRect 0 t)).set]{fullShare} f)
    ∗ (list.view.loc c ↦[{list.view.emb (entry off hoff t)}]{fullShare} fo)
    ∗ (src.view.loc c ↦[src.view.set]{pieceOf q 3072 (by decide) t} fs))

instance rowRes_storable (f : Buf (Elt F) (slot.view.loc c)) (t : Fin 3072) :
    BI.Storable (upEmb : UEmb _ 𝕄) (rowRes (Name := Name) (U := U) (Lvl := Lvl) (Ix := Ix) c slot list src off hoff q fo fs f t) := by
  unfold rowRes; infer_instance

/-- The chunk's window of the list. -/
abbrev window : Rect SList := Rect.unit (s := SList) ![off] ![3072] (fun a => match a with | ⟨0, _⟩ => hoff)

/-- All the rows at once: the buffer, the list's window, and the share of the plane. -/
theorem rowRes_all (f : Buf (Elt F) (slot.view.loc c)) :
    (bigSep Finset.univ fun t => rowRes (Name := Name) (U := U) (Lvl := Lvl) (Ix := Ix) c slot list src off hoff q fo fs f t)
      = iprop((slot.view.loc c ↦[slot.view.set]{fullShare} f) ∗ (list.view.loc c ↦[(list.view.slice (window off hoff)).set]{fullShare} fo)
        ∗ (src.view.loc c ↦[src.view.set]{q} fs)) := by
  unfold rowRes
  have hb : Function.Bijective (fun t : Fin 3072 => (ix1 t : (window off hoff).shape.Idx)) :=
    ⟨fun _ _ h => congrFun h 0, fun x => ⟨x 0, (eq_ix1 (n0 := 3072) x).symm⟩⟩
  have he : ∀ t : Fin 3072, (list.view.slice (window off hoff)).emb (ix1 t) = list.view.emb (entry off hoff t) := fun t => by
    refine congrArg list.view.emb (funext fun a => Fin.ext ?_)
    match a with
    | ⟨0, _⟩ => show off + 1 * t.val = off + t.val; omega
  rw [bigSep_sep', bigSep_sep', ← pointsTo_piecesOf src.view.set fs (by decide : 0 < 3072) q]
  congr 1
  · exact (pointsTo_rows c slot.view 0 fullShare f).symm
  congr 1
  exact ((pointsTo_entries c (list.view.slice (window off hoff)) (fun t : Fin 3072 => ix1 t) hb fullShare fo).trans
    (bigSep_congr fun t _ => by rw [he t])).symm

variable {Λ : Labels} {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)}

/-- Row `j'` of the `j`-th block of the buffer is the buffer's row `256 * j + j'`. -/
theorem set_blockRow (o : Fin 2 → ℕ) (inb) (u : ℕ) (ho : o = ![u, 0]) (ax : Fin 2) (hax : ax = 0) (j' : Fin (SBlk.size ax)) (t : Fin 3072)
    (ht : t.val = u + j'.val) :
    ((slot.slice (Rect.unit (s := SSlot) o SBlk.size inb) (fun _ => rfl)).view.slice (SBlk.rowRect ax j')).set = (slot.view.slice (SSlot.rowRect 0 t)).set := by
  subst hax ho
  show ((slot.view.slice _).slice _).set = _
  rw [View.set_slice, View.set_slice]
  have hmap : ((slot.view.slice (Rect.unit (s := SSlot) ![u, 0] SBlk.size inb)).emb)
      = (Rect.unit (s := SSlot) ![u, 0] SBlk.size inb).emb.trans slot.view.emb := rfl
  rw [hmap, ← Finset.map_map]
  congr 1
  ext x
  simp only [Finset.mem_map]
  rw [LoadRect.mem_set]
  constructor
  · rintro ⟨y, hy, rfl⟩
    rw [LoadRect.mem_set] at hy
    intro a
    obtain ⟨k, hk, e⟩ := hy a
    match a with
    | ⟨0, _⟩ =>
      refine ⟨0, Nat.one_pos, ?_⟩
      have hk' : k < 1 := hk
      have e' : (y 0).val = j'.val + 1 * k := e
      show u + 1 * (y 0).val = t.val + 1 * 0
      omega
    | ⟨1, _⟩ =>
      refine ⟨k, hk, ?_⟩
      have e' : (y 1).val = 0 + 1 * k := e
      show 0 + 1 * (y 1).val = 0 + 1 * k
      omega
  · intro h
    obtain ⟨k0, hk0, e0⟩ := h 0
    obtain ⟨k1, hk1, e1⟩ := h 1
    have hk0' : k0 < 1 := hk0
    have e0' : (x 0).val = t.val + 1 * k0 := e0
    refine ⟨ix2 ⟨j'.val, j'.isLt⟩ (x 1), ?_, ?_⟩
    · rw [LoadRect.mem_set]
      intro a
      match a with
      | ⟨0, _⟩ => exact ⟨0, Nat.one_pos, by show j'.val = j'.val + 1 * 0; omega⟩
      | ⟨1, _⟩ => exact ⟨(x 1).val, (x 1).isLt, by show (x 1).val = 0 + 1 * (x 1).val; omega⟩
    · refine funext fun a => Fin.ext ?_
      match a with
      | ⟨0, _⟩ => show u + 1 * j'.val = (x 0).val; omega
      | ⟨1, _⟩ => show 0 + 1 * (x 1).val = (x 1).val; omega

/-- Entry `j'` of the window of the list starting at row `u` of the chunk is the list's entry for row `u + j'`. -/
theorem emb_window (o : Fin 1 → ℕ) (inb) (u : ℕ) (ho : o = ![off + u]) (k : Fin SWin.numel) (t : Fin 3072) (ht : t.val = u + k.val) :
    (list.slice (Rect.unit (s := SList) o SWin.size inb) (fun _ => rfl)).view.emb (SWin.rowMajor.symm k) = list.view.emb (entry off hoff t) := by
  subst ho
  have hk : (SWin.rowMajor.symm k 0).val = k.val := by
    have h := Shape.rowMajor_val_one (SWin.rowMajor.symm k)
    rw [Equiv.apply_symm_apply] at h; exact h.symm
  refine congrArg list.view.emb (funext fun a => Fin.ext ?_)
  match a with
  | ⟨0, _⟩ => show off + u + 1 * (SWin.rowMajor.symm k 0).val = off + t.val; omega

/-- The gather of the rows from `u` on, started inside the chunk's batch with `u` rows started before it: the list's
    words are row numbers of the plane (`hin`), and `G` is what the chunk's buffer is to hold — at row `t` the row of the
    plane that the list's entry for `t` names (`hG`). -/
theorem wp_startGather [EC.LandsIn (upEmb : UEmb _ 𝕄)] {hg : SPlane.Gathers 0 SBlk} {hn : SWin.numel = SBlk.size hg.axis'} {sem : DmaSem sig}
    {hp : c.2.kind = .scVector} {hsrc : src.view.WordExact} {he : EltTy.f32.bits = 32} {hsp : sp = .hbm ∨ sp = .shared} {hr : SPlane.StreamRows 0}
    {k : PUnit → Prog (TpuEff nD τ sig (Elt F) Λ c.2) α} (ι : Ix) (N u : ℕ) (hu : u + 256 ≤ 3072)
    (o₁ : Fin 2 → ℕ) (inb₁) (h₁ : o₁ = ![u, 0]) (o₂ : Fin 1 → ℕ) (inb₂) (h₂ : o₂ = ![off + u])
    (fd : Buf (Elt F) (slot.view.loc c)) (G : SSlot.Idx → Elt F .f32)
    (hN : ∀ j, ((slot.slice (Rect.unit (s := SSlot) o₁ SBlk.size inb₁) (fun _ => rfl)).slice (SBlk.rowRect hg.axis' j) (SBlk.stride_rowRect hg.axis' j)).view.dmaCredit = N)
    (hin : ∀ x, (list.view.read (Elt F) fo x).toNat < 9216)
    (hG : ∀ (t : Fin 3072) (l : Fin 16), G (ix2 t l) = src.view.read (Elt F) fs (ix2 ⟨(list.view.read (Elt F) fo (entry off hoff t)).toNat, hin _⟩ l)) :
    iprop(Batch EC c (.dma sem) ι N (rowRes c slot list src off hoff q fo fs (slot.view.write (Elt F) fd G Finset.univ)) u 0
        ∗ bigSep (pending u) (rowRes c slot list src off hoff q fo fs fd))
      ⊢ iprop((iprop(Batch EC c (.dma sem) ι N (rowRes c slot list src off hoff q fo fs (slot.view.write (Elt F) fd G Finset.univ)) (u + 256) 0
              ∗ bigSep (pending (u + 256)) (rowRes c slot list src off hoff q fo fs fd))
              -∗ wp frame (wpE defs 𝒱 c bd) Set.univ (k ⟨⟩) Q)
          -∗ wp frame (wpE defs 𝒱 c bd) Set.univ
            (enqueueIndirectGather hp src (slot.slice (Rect.unit (s := SSlot) o₁ SBlk.size inb₁) (fun _ => rfl)) hg
              (list.slice (Rect.unit (s := SList) o₂ SWin.size inb₂) (fun _ => rfl)) hn sem hsrc he hsp hr >>= k) Q) := by
  have hax : hg.axis' = (0 : Fin 2) := rfl
  have hu' : u + SBlk.size hg.axis' ≤ 3072 := hu
  have hrow : ∀ (j : Fin (SBlk.size hg.axis')), ((inBlock (n := 3072) u (SBlk.size hg.axis') hu' j : Fin 3072)).val = u + j.val := fun _ => rfl
  have hset := fun j : Fin (SBlk.size hg.axis') => set_blockRow c slot o₁ inb₁ u h₁ hg.axis' hax j (inBlock u _ hu' j) (hrow j)
  have hent := fun j : Fin (SBlk.size hg.axis') => emb_window c list off hoff o₂ inb₂ u h₂ (j.cast hn.symm) (inBlock u _ hu' j) (hrow j)
  have hin' : ∀ x, ((list.slice (Rect.unit (s := SList) o₂ SWin.size inb₂) (fun _ => rfl)).view.read (Elt F) fo x).toNat < SPlane.size hg.axis :=
    fun x => hin ((Rect.unit (s := SList) o₂ SWin.size inb₂).emb x)
  refine wp_gatherInBatch EC 𝒱 c bd (hg := hg) (hn := hn) ι N _ (rowRes c slot list src off hoff q fo fs fd) u hu'
    (fun j => pieceOf q 3072 (by decide) (inBlock u _ hu' j)) (qo := fullShare) (fs := fs) (fd := fd) (fo := fo) hN hin' (fun j => ?_) (fun j => ?_)
  · unfold rowRes
    rw [← hset j, ← hent j]
  · unfold rowRes
    rw [← hset j, ← hent j]
    refine sep_mono (Entails.of_eq (pointsTo_congr fun x hx => ?_)) .rfl
    obtain ⟨i, -, rfl⟩ := Finset.mem_map.mp hx
    rw [View.write_emb_of_mem _ _ (Finset.mem_univ i)]
    -- the element as the chunk's buffer names it
    have hi0 : (i 0).val = 0 := by have h : (i 0).val < 1 := (i 0).isLt; omega
    have hemb : ((slot.slice (Rect.unit (s := SSlot) o₁ SBlk.size inb₁) (fun _ => rfl)).view.slice (SBlk.rowRect hg.axis' j)).emb i
        = slot.view.emb (ix2 (inBlock (n := 3072) u (SBlk.size hg.axis') hu' j) ⟨(i 1).val, (i 1).isLt⟩) := by
      subst h₁
      refine congrArg slot.view.emb (funext fun a => Fin.ext ?_)
      match a with
      | ⟨0, _⟩ => show u + 1 * (j.val + 1 * (i 0).val) = u + j.val; omega
      | ⟨1, _⟩ => show 0 + 1 * (0 + 1 * (i 1).val) = (i 1).val; omega
    rw [hemb, View.write_emb_of_mem _ _ (Finset.mem_univ _), hG]
    refine congrArg (_root_.cast _) (congrArg (src.view.read (Elt F) fs) (funext fun a => Fin.ext ?_))
    match a with
    | ⟨0, _⟩ =>
      refine (congrArg Fin.val (Shape.Gathers.rowIdx_axis hg _ i)).trans ?_
      show (list.view.read (Elt F) fo _).toNat = (list.view.read (Elt F) fo _).toNat
      rw [View.read_apply, View.read_apply, ← hent j]; rfl
    | ⟨1, h⟩ => exact (Shape.Gathers.rowIdx_of_ne hg _ i ⟨1, h⟩ (by decide : (1 : ℕ) ≠ 0))

end Cert.Proof.Chunk

end
-- ==== Proof.InRange.lean ====
/-
  What the precondition says: every word of the permutations, signed, is at least zero and below 576; so read as a
  number it is below 576.
-/
module

public import proofs.«01_k».proof.Defs
public import proofs.«01_k».proof.Proof.Gen.Pre_in_range
public import Idealize.ShloMosaic.Lib.ReduceAll

@[expose] public section

noncomputable section

namespace Cert.Proof.InRange

open Idealize.ShloMosaic Cert.Pre_in_range Cert.Pre_in_range.Gen

theorem word_lt {v : BitVec 32} (h₀ : IntOp.cmpi .sge v 0#32 = 1#1) (h₁ : IntOp.cmpi .slt v 576#32 = 1#1) : v.toNat < 576 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h₀ h₁
  omega

instance : Subsingleton S_.Idx := ⟨fun _ _ => funext fun a => a.elim0⟩

theorem of_fn {F : FTy → Type} [FloatOps F] (a0 : FVec F S4x96x384x384 .f32) (a1 : IVec S4x576 32)
    (h : Cert.Pre_in_range.fn (F := F) a0 a1 = fun _ => 1#1) (x : S4x576.Idx) : (a1 x).toNat < 576 := by
  have e := Host.reduce_andi_all _ _ _ _ (fun a => a.elim0) (congrFun h _) x
  have e' := IntOp.andi_eq_one.1 e
  exact word_lt e'.1 e'.2

end Cert.Proof.InRange

end
-- ==== Proof.K.Frame.lean ====
/-
  The program's run under the precondition, as the claims state it.
-/
module

public import proofs.«01_k».proof.Proof.K.Main
public import proofs.«01_k».proof.Proof.InRange

@[expose] public section

noncomputable section

namespace Cert.Proof.K

open Cert.Kernel Cert.Kernel.Gen Cert.Proof.Shuffle Cert.Proof.Chunk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

theorem ok_of_pre (m : (ℓ : Loc nD τ sig) → Buf (Elt Bits) ℓ) (h : Cert.Pre_Kernel m) : PreOK (F := Bits) m :=
  fun d x => by
    show (m (bLoc d) _).toNat < 576
    exact InRange.of_fn _ _ (h d) _

theorem run_pre (m : (ℓ : Loc nD τ sig) → Buf (Elt Bits) ℓ) (ρ : Dev nD → PrngReg) (h : Cert.Pre_Kernel m) :
    θ_run (Cert.Kernel.defs (F := Bits)) (Cert.Kernel.threads (F := Bits)) ⟨m, fun _ => 0, ρ⟩ (QC m) :=
  run_main (F := Bits) m ρ (ok_of_pre m h)

/-- The program ends, faults nowhere, leaves its arguments as they were and every semaphore at zero. -/
theorem quiescent : Cert.quiescent_Kernel := fun m ρ h =>
  (θ_run Cert.Kernel.defs _ _).mono (fun _ hr => ⟨fun c => ⟨(hr.1 c).1, (hr.1 c).2.1⟩, hr.2⟩) (run_pre m ρ h)

end Cert.Proof.K

end
-- ==== Proof.KI.Words.lean ====
/-
  The two vectors a trip of the first loop computes, read at a lane as the words of natural numbers: the positions at
  which it reads the permutations (`k0_pay3`), and the row numbers it stores (`k0_pay4`).
-/
module

public import proofs.«01_k».proof.Proof.Shuffle
public import proofs.«01_k».proof.Proof.Gen.KernelIdeal.Skeleton

@[expose] public section

noncomputable section

namespace Cert.Proof.KI

open Cert.KernelIdeal Cert.KernelIdeal.Gen Cert.Proof.Shuffle

open Idealize.ShloMosaic Idealize.ShloMosaic.Routing

variable {F : FTy → Type} [FloatOps F]

/-- A tile's number among the thirty-two: its subcore's number twice, plus its SparseCore's. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem trips1 (t : Fin k0_t1_loop.trips) : t.val < 576 := Nat.lt_of_lt_of_le t.isLt k0_t1_abs.2.1
theorem trips2 (t : Fin k0_t2_loop.trips) : t.val < 18 := Nat.lt_of_lt_of_le t.isLt k0_t2_abs.2.1

/-- The row of a plane that lane `x` of trip `t` works on. -/
def row1 (t : ℕ) (x : S16.Idx) : ℕ := 16 * t + (x 0).val

theorem row1_lt {t : ℕ} (ht : t < 576) (x : S16.Idx) : row1 t x < 9216 := by
  have : (x 0).val < 16 := (x 0).isLt
  unfold row1; omega

theorem pay1_word (t : Fin k0_t1_loop.trips) (x : S16.Idx) : k0_pay1 t x = BitVec.ofNat 32 (row1 t.val x) := by
  show (0#32 + BitVec.ofNat 32 t.val * 1#32) * 16#32 + BitVec.ofNat 32 (0 * 16 + (x 0).val) = _
  rw [BitVec.zero_add, BitVec.mul_one, ← BitVec.ofNat_mul, ← BitVec.ofNat_add]
  congr 1; unfold row1; omega

theorem pay2_word (t : Fin k0_t1_loop.trips) (x : S16.Idx) : k0_pay2 t x = BitVec.ofNat 32 (row1 t.val x / 24) := by
  have := row1_lt (trips1 t) x
  show IntOp.divsi _ (k0_pay1 t x) (BitVec.ofNat 32 24) = _
  rw [pay1_word, divsi_word _ (by omega) (by omega) (by omega)]

/-- The image a tile works on, as the program computes it. -/
def imageWord (a b : ℕ) : BitVec 32 :=
  let v2 : BitVec 32 := Scalar.muli (Scalar.addi (Scalar.muli (BitVec.ofNat 32 b) 2#32) (BitVec.ofNat 32 a)) 110592#32
  let v3 : BitVec 32 := Scalar.divsi v2 884736#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 884736#32 0#32)) (Scalar.extui (Scalar.cmpi .slt 884736#32 0#32))
  let v17 : BitVec 1 := Scalar.andi (Scalar.cmpi .ne v8 v13) (Scalar.cmpi .ne (Scalar.remsi v2 884736#32) 0#32)
  Scalar.select v17 (Scalar.subi v3 1#32) v3

/-- It is the tile's number over eight. -/
theorem imageWord_eq : ∀ (a : Fin 2) (b : Fin 16), imageWord a.val b.val = BitVec.ofNat 32 ((2 * b.val + a.val) / 8) := by
  decide +kernel

/-- Lane `x` of trip `t` reads the permutation's entry for its row: the tile's image's, at the row's grid position. -/
theorem pay3_word (i : grid0.Coords) (t : Fin k0_t1_loop.trips) (x : S16.Idx) :
    k0_pay3 i t x = BitVec.ofNat 32 (wid i / 8 * 576 + gridPos (row1 t.val x)) := by
  have hr := row1_lt (trips1 t) x
  have hi := imageWord_eq ⟨(i 0).val, (i 0).isLt⟩ ⟨(i 1).val, (i 1).isLt⟩
  show imageWord (i 0).val (i 1).val * 576#32 + IntOp.divsi _ (k0_pay2 t x) (BitVec.ofNat 32 16) * 24#32
    + IntOp.remsi _ (k0_pay1 t x) (BitVec.ofNat 32 24) = _
  rw [show imageWord (i 0).val (i 1).val = BitVec.ofNat 32 (wid i / 8) from hi, pay1_word, pay2_word,
    divsi_word _ (by omega) (by omega) (by omega), remsi_word _ (by omega) (by omega) (by omega),
    ← BitVec.ofNat_mul, ← BitVec.ofNat_mul, ← BitVec.ofNat_add, ← BitVec.ofNat_add]
  congr 1; unfold gridPos; omega

/-- Every such position is one of the permutations' `2304` words. -/
theorem chk1 (i : grid0.Coords) (t : Fin k0_t1_loop.trips) : k0_chk1 (k0_pay3 i t) := by
  intro a x
  have hg := gridPos_lt (row1_lt (trips1 t) x)
  have hw := wid_lt i
  match a with
  | 0 =>
    show (k0_pay3 i t x).toNat < 2304
    rw [pay3_word, BitVec.toNat_ofNat]
    exact lt_of_le_of_lt (Nat.mod_le _ _) (by omega)

/-- From a permutation entry `s` below `576` a lane computes the row its own is filled from. -/
theorem pay4_word (t : Fin k0_t1_loop.trips) (v : Vec F S16 .i32) (x : S16.Idx) (s : ℕ) (hv : v x = BitVec.ofNat 32 s) (hs : s < 576) :
    k0_pay4 t v x = BitVec.ofNat 32 (patchRow s (row1 t.val x)) := by
  have hr := row1_lt (trips1 t) x
  show (IntOp.divsi _ (v x) (BitVec.ofNat 32 24) * 16#32 + IntOp.remsi _ (k0_pay2 t x) (BitVec.ofNat 32 16)) * 24#32
    + IntOp.remsi _ (v x) (BitVec.ofNat 32 24) = _
  rw [hv, pay2_word, divsi_word _ (by omega) (by omega) (by omega), remsi_word _ (by omega) (by omega) (by omega),
    remsi_word _ (by omega) (by omega) (by omega), ← BitVec.ofNat_mul, ← BitVec.ofNat_add, ← BitVec.ofNat_mul, ← BitVec.ofNat_add]
  rfl

end Cert.Proof.KI
-- ==== Proof.KI.Base.lean ====
/-
  The set-up the tile's proof and the launch share: the program as the launch theorem sees it, the buffers by name, and
  the values. With `tbl` the table of rows the call reads and `prm` the permutations' words, `relW` is the list of row
  numbers a tile computes, and `outV` the array the call leaves: row `r` of it is the table's row `srcRow r`.
-/
module

public import proofs.«01_k».proof.Defs
public import proofs.«01_k».proof.Proof.KI.Words
public import proofs.«01_k».proof.Proof.Chunk
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.KI

open Cert.KernelIdeal Cert.KernelIdeal.Gen Cert.Proof.Shuffle

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## The buffers -/

/-- The table of rows, the permutations and the result of the call; the two arguments and the result of `@main`. -/
abbrev tLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-! ## The values -/

/-- The `n`-th of the permutations' words, as a number. -/
def permAt (prm : S2304.Idx → Elt F .i32) (n : ℕ) : ℕ := if h : n < 2304 then (prm (ix1 ⟨n, h⟩)).toNat else 0

/-- Every word of the permutations names a patch. -/
def PermOK (prm : S2304.Idx → Elt F .i32) : Prop := ∀ x, (prm x).toNat < 576

theorem permAt_lt {prm : S2304.Idx → Elt F .i32} (h : PermOK prm) (n : ℕ) : permAt prm n < 576 := by
  unfold permAt; split
  · exact h _
  · omega

theorem srcRow_lt' {prm : S2304.Idx → Elt F .i32} {r : ℕ} (h : r < 3538944) (hP : PermOK prm) :
    srcRow (permAt prm) r < 3538944 := srcRow_lt (permAt_lt hP) h

/-- The list of row numbers a tile computes: for each row of a plane, the row of the plane that goes there. -/
def relW (L : grid0.Coords) (prm : S2304.Idx → Elt F .i32) : S9216.Idx → Elt F .i32 :=
  fun x => BitVec.ofNat 32 (patchRow (permAt prm (wid L / 8 * 576 + gridPos (x 0).val)) (x 0).val)

theorem relW_toNat (L : grid0.Coords) {prm : S2304.Idx → Elt F .i32} (hP : PermOK prm) (x : S9216.Idx) :
    (relW L prm x).toNat = patchRow (permAt prm (wid L / 8 * 576 + gridPos (x 0).val)) (x 0).val := by
  have := patchRow_lt (j := (x 0).val) (permAt_lt hP (wid L / 8 * 576 + gridPos (x 0).val))
  unfold relW
  rw [BitVec.toNat_ofNat, Nat.mod_eq_of_lt (by omega)]

theorem relW_lt (L : grid0.Coords) {prm : S2304.Idx → Elt F .i32} (hP : PermOK prm) (x : S9216.Idx) :
    (relW L prm x).toNat < 9216 := by
  rw [relW_toNat L hP]; exact patchRow_lt (permAt_lt hP _)

/-- What the call leaves: row `r` is the table's row `srcRow r`. -/
def outV (tbl : S3538944x16.Idx → Elt F .f32) (prm : S2304.Idx → Elt F .i32) : S3538944x16.Idx → Elt F .f32 :=
  fun y => if h : srcRow (permAt prm) (y 0).val < 3538944 then tbl (ix2 ⟨srcRow (permAt prm) (y 0).val, h⟩ (y 1)) else tbl y

theorem outV_apply (tbl : S3538944x16.Idx → Elt F .f32) {prm : S2304.Idx → Elt F .i32} (hP : PermOK prm) (y : S3538944x16.Idx) :
    outV tbl prm y = tbl (ix2 ⟨srcRow (permAt prm) (y 0).val, srcRow_lt' (y 0).isLt hP⟩ (y 1)) := dif_pos _

/-! ## A tile's chunks -/

/-- The first row of tile `L`'s `n`-th chunk. -/
def chunkRow (L : grid0.Coords) (n : ℕ) : ℕ := 110592 * wid L + 3072 * n

theorem chunkRow_le (L : grid0.Coords) {n : ℕ} (h : n < 36) : chunkRow L n + 3072 ≤ 3538944 := by
  have := wid_lt L
  unfold chunkRow; omega

/-- Where in the list of row numbers the chunk's begin. -/
theorem chunkOff_le (L : grid0.Coords) (n : ℕ) : chunkRow L n % 9216 + 3072 ≤ 9216 := by
  unfold chunkRow; omega

/-- What the chunk's buffer holds once filled. -/
def chunkV (L : grid0.Coords) (n : ℕ) (h : n < 36) (tbl : S3538944x16.Idx → Elt F .f32) (prm : S2304.Idx → Elt F .i32) :
    S3072x16.Idx → Elt F .f32 :=
  fun x => outV tbl prm (ix2 ⟨chunkRow L n + (x 0).val, by have := chunkRow_le L h; have : (x 0).val < 3072 := (x 0).isLt; omega⟩ (x 1))

/-- Row `t` of a chunk comes from the chunk's plane, at the row its entry of the list names. -/
theorem srcRow_chunk (L : grid0.Coords) (n : ℕ) (h : n < 36) (p : ℕ → ℕ) (t : ℕ) (ht : t < 3072) :
    srcRow p (chunkRow L n + t)
      = 9216 * (chunkRow L n / 9216)
        + patchRow (p (wid L / 8 * 576 + gridPos (chunkRow L n % 9216 + t))) (chunkRow L n % 9216 + t) := by
  have h1 : (chunkRow L n + t) / 9216 = chunkRow L n / 9216 := by unfold chunkRow; omega
  have h2 : (chunkRow L n + t) % 9216 = chunkRow L n % 9216 + t := by unfold chunkRow; omega
  have h3 : (chunkRow L n + t) / 884736 = wid L / 8 := by unfold chunkRow; omega
  unfold srcRow
  rw [h1, h2, h3, Nat.mul_comm]

end Cert.Proof.KI

end
-- ==== Proof.KI.Fill.lean ====
/-
  One chunk filled, in the program's spelling: the twelve starts of a trip's gathers and the twelve waits for them, each
  as one step of `Started` (so many rows' transfers started) and `Landing` (all started, so many rows' bits waited for).
  The chunk is the `r`-th of trip `t`, in either of the two buffers.
-/
module

public import proofs.«01_k».proof.Proof.KI.Base

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile and its buffers -/

abbrev cV (L : grid0.Coords) : Fin τ.nSC := (L 0).castLE hcore0
abbrev jV (L : grid0.Coords) : Fin τ.nSub := (L 1).castLE hsub0
/-- The tile's thread. -/
abbrev th (d : Dev nD) (L : grid0.Coords) : Thread nD τ := V d (cV L) (jV L)

/-- The table, the permutations and the result in HBM; the tile's copies of the permutations, its list of row numbers,
    and its two buffers. -/
abbrev tW : Memref sig .scVector .hbm S3538944x16 .f32 := Memref.whole main_v0_scv
abbrev pW : Memref sig .scVector .hbm S2304 .i32 := Memref.whole main_v1_scv
abbrev oW : Memref sig .scVector .hbm S3538944x16 .f32 := Memref.whole main_v2_scv
abbrev qW : Memref sig .scVector .vmem S2304 .i32 := Memref.whole cc0_scratch0
abbrev lW : Memref sig .scVector .vmem S9216 .i32 := Memref.whole cc0_scratch1
abbrev aW : Memref sig .scVector .vmem S3072x16 .f32 := Memref.whole cc0_scratch2
abbrev bW : Memref sig .scVector .vmem S3072x16 .f32 := Memref.whole cc0_scratch3

variable (d : Dev nD) (L : grid0.Coords) (t : Fin k0_t2_loop.trips) (r : Fin 2)

/-- The chunk's number. -/
abbrev cn : ℕ := 2 * t.val + r.val
theorem cn_lt : cn t r < 36 := by have := trips2 t; have := r.isLt; unfold cn; omega

/-- The plane the chunk's rows come from. -/
abbrev planeM : Memref sig .scVector .hbm S9216x16 .f32 :=
  (tW.slice (Rect.unit (s := S3538944x16) (k0_off4 L t (BitVec.ofNat 32 r.val)) S9216x16.size (k0_off4_inb L t r)) (fun _ => rfl)).slice
    (Rect.unit (s := S9216x16) ![0, 0] S9216x16.size inb_S9216x16_S9216x16_0_0) (fun _ => rfl)

theorem chunkRow_eq : 221184 * (L 1).val + 110592 * (L 0).val + 6144 * t.val + 3072 * r.val = chunkRow L (cn t r) := by
  unfold chunkRow cn wid; omega

/-- Element `(j, l)` of the plane is the table's, the plane's first row further down. -/
theorem planeM_emb (j : Fin 9216) (l : Fin 16) (h : 9216 * (chunkRow L (cn t r) / 9216) + j.val < 3538944) :
    (planeM L t r).view.emb (ix2 j l) = ix2 ⟨9216 * (chunkRow L (cn t r) / 9216) + j.val, h⟩ l := by
  have ho := k0_off4_eq L t r
  rw [chunkRow_eq] at ho
  refine funext fun a => Fin.ext ?_
  match a with
  | ⟨0, _⟩ =>
    show k0_off4 L t (BitVec.ofNat 32 r.val) 0 + 1 * (0 + 1 * j.val) = 9216 * (chunkRow L (cn t r) / 9216) + j.val
    rw [ho]; show 9216 * (chunkRow L (cn t r) / 9216) + 1 * (0 + 1 * j.val) = _; omega
  | ⟨1, _⟩ =>
    show k0_off4 L t (BitVec.ofNat 32 r.val) 1 + 1 * (0 + 1 * l.val) = l.val
    rw [ho]; show 0 + 1 * (0 + 1 * l.val) = _; omega

/-! ## The chunk's rows, some of them started, some landed -/

variable (slot : Memref sig .scVector .vmem S3072x16 .f32)
variable (tbl : S3538944x16.Idx → Elt F .f32) (prm : S2304.Idx → Elt F .i32) (q : PosShare TreeShare)

/-- The chunk's rows with the buffer at contents `f`. -/
abbrev rows (f : Buf (Elt F) (slot.view.loc (th d L))) : Fin 3072 → sProp 𝕄 :=
  rowRes (th d L) slot lW (planeM L t r) (chunkRow L (cn t r) % 9216) (chunkOff_le L (cn t r)) q (relW L prm) tbl f

/-- The buffer filled, from contents `fd`. -/
abbrev filled (fd : Buf (Elt F) (slot.view.loc (th d L))) : Buf (Elt F) (slot.view.loc (th d L)) :=
  slot.view.write (Elt F) fd (chunkV L (cn t r) (cn_lt t r) tbl prm) Finset.univ

/-- A row's bits, as a transfer of it counts. -/
abbrev rowBits : ℕ := 512

/-- The transfers of the first `u` rows are started. -/
abbrev Started (fd : Buf (Elt F) (slot.view.loc (th d L))) (u : ℕ) : sProp 𝕄 :=
  iprop(Batch countersEmb (th d L) (.dma cc0_scratch4.sem) (default : HIx 1) rowBits (rows d L t r slot tbl prm q (filled d L t r slot tbl prm fd)) u 0
    ∗ bigSep (pending u) (rows d L t r slot tbl prm q fd))

/-- All are started, and `u` bits waited for. -/
abbrev Landing (fd : Buf (Elt F) (slot.view.loc (th d L))) (u : ℕ) : sProp 𝕄 :=
  Batch countersEmb (th d L) (.dma cc0_scratch4.sem) (default : HIx 1) rowBits (rows d L t r slot tbl prm q (filled d L t r slot tbl prm fd)) 3072 u

theorem credit_eq {sp : Space} {s : Shape} {e : EltTy} (m : Memref sig .scVector sp s e) : m.view.dmaCredit = RefSig.bitCredit s e := rfl

theorem rowBits_eq : RefSig.bitCredit (S256x16.rowShape gathers_S9216x16_S256x16.axis') .f32 = rowBits := by decide
theorem blockBits_eq : RefSig.bitCredit S256x16 .f32 = 256 * rowBits := by decide

/-- Row `j` of the chunk, from the plane at the list's entry for it. -/
theorem chunkV_eq (hP : PermOK prm) (j : Fin 3072) (l : Fin 16) :
    chunkV L (cn t r) (cn_lt t r) tbl prm (ix2 j l)
      = (planeM L t r).view.read (Elt F) tbl
          (ix2 ⟨(lW.view.read (Elt F) (relW L prm) (entry (chunkRow L (cn t r) % 9216) (chunkOff_le L (cn t r)) j)).toNat, relW_lt L hP _⟩ l) := by
  have hs := srcRow_chunk L (cn t r) (cn_lt t r) (permAt prm) j.val j.isLt
  have hr : (relW L prm (entry (chunkRow L (cn t r) % 9216) (chunkOff_le L (cn t r)) j)).toNat
      = patchRow (permAt prm (wid L / 8 * 576 + gridPos (chunkRow L (cn t r) % 9216 + j.val))) (chunkRow L (cn t r) % 9216 + j.val) :=
    relW_toNat L hP _
  have hlt : srcRow (permAt prm) (chunkRow L (cn t r) + j.val) < 3538944 :=
    srcRow_lt' (by have := chunkRow_le L (cn_lt t r); omega) hP
  have hlt' := hlt
  rw [hs, ← hr] at hlt'
  unfold chunkV
  rw [outV_apply _ hP, View.read_apply]
  refine (congrArg tbl ?_).trans (cast_eq _ _).symm
  refine Eq.trans ?_ (planeM_emb L t r _ l hlt').symm
  refine congrArg (fun x => (ix2 x l : S3538944x16.Idx)) (Fin.ext ?_)
  exact hs.trans (by rw [← hr]; rfl)

variable [FloatOps F]

/-- The gather of rows `u` to `u + 255` is started. -/
theorem start_step {α : Type} {Q : α → sProp 𝕄} {k : PUnit → Prog (TpuEff nD τ sig (Elt F) Λ₀ (th d L).2) α}
    (hP : PermOK prm) (fd : Buf (Elt F) (slot.view.loc (th d L))) (u u' : ℕ) (hu : u' ≤ 3072) (hu' : u + 256 = u')
    {o₁ : Fin 2 → ℕ} {inb₁} {o₂ : Fin 1 → ℕ} {inb₂} {hsrc} {he} {hsp} {hr'}
    (h₁ : o₁ = ![u, 0]) (h₂ : o₂ = ![chunkRow L (cn t r) % 9216 + u]) :
    (Started d L t r slot tbl prm q fd u : sProp 𝕄)
      ⊢ iprop((Started d L t r slot tbl prm q fd u'
              -∗ wp frame (wpE (defs₀ (F := F)) 𝒱₀ (th d L) none) Set.univ (k ⟨⟩) Q)
          -∗ wp frame (wpE (defs₀ (F := F)) 𝒱₀ (th d L) none) Set.univ
            (SparseCore.enqueueIndirectGather rfl (planeM L t r) (slot.slice (Rect.unit (s := S3072x16) o₁ S256x16.size inb₁) (fun _ => rfl))
              gathers_S9216x16_S256x16 (lW.slice (Rect.unit (s := S9216) o₂ S256.size inb₂) (fun _ => rfl)) rfl cc0_scratch4.sem hsrc he hsp hr' >>= k) Q) := by
  subst hu'
  exact wp_startGather (th d L) slot lW (planeM L t r) (chunkRow L (cn t r) % 9216) (chunkOff_le L (cn t r)) q (relW L prm) tbl
    countersEmb 𝒱₀ none (default : HIx 1) rowBits u hu o₁ inb₁ h₁ o₂ inb₂ h₂ fd (chunkV L (cn t r) (cn_lt t r) tbl prm)
    (fun j => rowBits_eq) (relW_lt L hP) (chunkV_eq L t r tbl prm hP)

end Cert.Proof.KI

end
-- ==== Proof.KI.Steps.lean ====
/-
  The other steps of a chunk, in the program's spelling: the waits for its gathers, the batch opened and closed around
  them, its write back to the result started and waited for, and the result's rows by ranges.
-/
module

public import proofs.«01_k».proof.Proof.KI.Fill

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch Flight)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords) (t : Fin k0_t2_loop.trips) (r : Fin 2)
variable (slot : Memref sig .scVector .vmem S3072x16 .f32)
variable (tbl : S3538944x16.Idx → Elt F .f32) (prm : S2304.Idx → Elt F .i32) (q : PosShare TreeShare)

/-! ## What the tile owes -/

variable (O : CellTallies nD τ sig (HIx 1)) (W : Waits sig (HIx 1))

/-- The tile's obligations, with only waits of its own transfers recorded beyond those it began with. -/
def Owed : sProp 𝕄 :=
  iprop(levAts (K (F := F)).L (K (F := F)).lev ∗ ∃ W', ⌜∀ p ∈ W', p ∈ W ∨ p.2 = none⌝ ∗ owes (th d L) O W')

theorem owed_insert {W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-! ## The waits for the gathers -/

/-- One of the first eleven waits: a block's bits waited for. -/
theorem drain_step {α : Type} {Q : α → sProp 𝕄} {k : PUnit → Prog (TpuEff nD τ sig (Elt F) Λ₀ (th d L).2) α}
    (hO : ∀ g, O g none = 0) (fd : Buf (Elt F) (slot.view.loc (th d L))) (u u' : ℕ) (hu : u' ≤ 512 * 3072) (hu' : u + 256 * 512 = u')
    {o₁ : Fin 2 → ℕ} {inb₁} {src : Memref sig .scVector .hbm S9216x16 .f32} {hsrc hdst} :
    (iprop(Landing d L t r slot tbl prm q fd u ∗ Owed d L O W) : sProp 𝕄)
      ⊢ iprop((iprop(Landing d L t r slot tbl prm q fd u' ∗ Owed d L O W)
              -∗ wp frame (wpE (defs₀ (F := F)) 𝒱₀ (th d L) none) Set.univ (k ⟨⟩) Q)
          -∗ wp frame (wpE (defs₀ (F := F)) 𝒱₀ (th d L) none) Set.univ
            (SparseCore.waitIndirectGather cc0_scratch4.sem src (slot.slice (Rect.unit (s := S3072x16) o₁ S256x16.size inb₁) (fun _ => rfl))
              hsrc hdst >>= k) Q) := by
  subst hu'
  unfold Owed
  iintro ⟨HB, #Hlv, %W', %hW, HO⟩ Hk
  iapply (Transfers.wp_waitBatchMulO countersEmb 𝒱₀ (th d L) none (default : HIx 1) 256 blockBits_eq hu) $$ [HB HO]
  · isplitl [HB]; · iexact HB
    isplitl [HO]; · iexact HO
    iapply (K (F := F)).mayWait_none (.dma cc0_scratch4.sem) hO $$ Hlv
  iintro ⟨HB, HO⟩
  iapply Hk
  isplitl [HB]; · iexact HB
  isplitr; · iexact Hlv
  iexists (insert (SemLoc.dma cc0_scratch4.sem, (default : HIx 1)) W')
  isplitr; · ipureintro; exact owed_insert W hW _
  iexact HO

/-- The last wait: every row has landed. -/
theorem drain_last {α : Type} {Q : α → sProp 𝕄} {k : PUnit → Prog (TpuEff nD τ sig (Elt F) Λ₀ (th d L).2) α}
    (hO : ∀ g, O g none = 0) (fd : Buf (Elt F) (slot.view.loc (th d L))) (u : ℕ) (hu : u + 256 * 512 = 512 * 3072)
    {o₁ : Fin 2 → ℕ} {inb₁} {src : Memref sig .scVector .hbm S9216x16 .f32} {hsrc hdst} :
    (iprop(Landing d L t r slot tbl prm q fd u ∗ Owed d L O W) : sProp 𝕄)
      ⊢ iprop((iprop(bigSep Finset.univ (rows d L t r slot tbl prm q (filled d L t r slot tbl prm fd)) ∗ semVal (th d L, .dma cc0_scratch4.sem) 0
                ∗ Owed d L O W)
              -∗ wp frame (wpE (defs₀ (F := F)) 𝒱₀ (th d L) none) Set.univ (k ⟨⟩) Q)
          -∗ wp frame (wpE (defs₀ (F := F)) 𝒱₀ (th d L) none) Set.univ
            (SparseCore.waitIndirectGather cc0_scratch4.sem src (slot.slice (Rect.unit (s := S3072x16) o₁ S256x16.size inb₁) (fun _ => rfl))
              hsrc hdst >>= k) Q) := by
  unfold Owed
  iintro ⟨HB, #Hlv, %W', %hW, HO⟩ Hk
  iapply (Transfers.wp_waitBatchAllO countersEmb 𝒱₀ (th d L) none (default : HIx 1) blockBits_eq (by decide : 0 < rowBits) hu) $$ [HB HO]
  · isplitl [HB]; · iexact HB
    isplitl [HO]; · iexact HO
    iapply (K (F := F)).mayWait_none (.dma cc0_scratch4.sem) hO $$ Hlv
  iintro ⟨HD, Hv, HO⟩
  iapply Hk
  isplitl [HD]; · iexact HD
  isplitl [Hv]; · iexact Hv
  isplitr; · iexact Hlv
  iexists (insert (SemLoc.dma cc0_scratch4.sem, (default : HIx 1)) W')
  isplitr; · ipureintro; exact owed_insert W hW _
  iexact HO

/-! ## The batch opened and closed -/

/-- The chunk's window of the list, and its plane of the table, as sets of elements. -/
abbrev winSet : Finset (Idx (lW.view.loc (th d L))) :=
  (lW.view.slice (window (chunkRow L (cn t r) % 9216) (chunkOff_le L (cn t r)))).set
abbrev planeSet : Finset (Idx (tW.view.loc (th d L))) := (planeM L t r).view.set

/-- What stays behind of the list and of the table while a chunk is filled. -/
abbrev Rest : sProp 𝕄 :=
  iprop((lW.view.loc (th d L) ↦[Finset.univ \ winSet d L t r]{fullShare} (relW L prm))
    ∗ (tW.view.loc (th d L) ↦[Finset.univ \ planeSet d L t r]{q} tbl))

/-- The list and the tile's share of the table. -/
abbrev Sources : sProp 𝕄 :=
  iprop((lW.view.loc (th d L) ↦[Finset.univ]{fullShare} (relW L prm)) ∗ (tW.view.loc (th d L) ↦[Finset.univ]{q} tbl))

theorem sources_eq : (Sources d L tbl prm q : sProp 𝕄)
    ⊣⊢ iprop(((lW.view.loc (th d L) ↦[winSet d L t r]{fullShare} (relW L prm)) ∗ (tW.view.loc (th d L) ↦[planeSet d L t r]{q} tbl))
      ∗ Rest d L t r tbl prm q) := by
  constructor
  · iintro ⟨Hl, Ht⟩
    ihave Hl' := (pointsTo_split_subset (q := fullShare) (f := relW L prm) (S := Finset.univ) (Finset.subset_univ (winSet d L t r))).1 $$ Hl
    ihave Ht' := (pointsTo_split_subset (q := q) (f := tbl) (S := Finset.univ) (Finset.subset_univ (planeSet d L t r))).1 $$ Ht
    icases Hl' with ⟨Hl1, Hl2⟩
    icases Ht' with ⟨Ht1, Ht2⟩
    isplitl [Hl1 Ht1]
    · isplitl [Hl1] <;> iassumption
    · isplitl [Hl2] <;> iassumption
  · iintro ⟨⟨Hl1, Ht1⟩, Hl2, Ht2⟩
    isplitl [Hl1 Hl2]
    · iapply (pointsTo_split_subset (q := fullShare) (f := relW L prm) (S := Finset.univ) (Finset.subset_univ (winSet d L t r))).2
      isplitl [Hl1] <;> iassumption
    · iapply (pointsTo_split_subset (q := q) (f := tbl) (S := Finset.univ) (Finset.subset_univ (planeSet d L t r))).2
      isplitl [Ht1] <;> iassumption

theorem rows_all (f : Buf (Elt F) (slot.view.loc (th d L))) :
    (bigSep Finset.univ (rows d L t r slot tbl prm q f) : sProp 𝕄)
      = iprop((slot.view.loc (th d L) ↦[slot.view.set]{fullShare} f)
        ∗ (lW.view.loc (th d L) ↦[winSet d L t r]{fullShare} (relW L prm)) ∗ (tW.view.loc (th d L) ↦[planeSet d L t r]{q} tbl)) :=
  rowRes_all (th d L) slot lW (planeM L t r) (chunkRow L (cn t r) % 9216) (chunkOff_le L (cn t r)) q (relW L prm) tbl f

/-- The batch opened: no row's transfer is started. -/
theorem fill_begin (fd : Buf (Elt F) (slot.view.loc (th d L))) :
    (iprop((slot.view.loc (th d L) ↦[slot.view.set]{fullShare} fd) ∗ Sources d L tbl prm q ∗ semVal (th d L, .dma cc0_scratch4.sem) 0) : sProp 𝕄)
      ⊢ |={Set.univ}=> iprop(Started d L t r slot tbl prm q fd 0 ∗ Rest d L t r tbl prm q) := by
  iintro ⟨Hs, Hst, Hv⟩
  ihave Hst' := (sources_eq d L t r tbl prm q).1 $$ Hst
  icases Hst' with ⟨⟨Hl, Ht⟩, HR⟩
  haveI : ∀ j, Storable (upEmb : UEmb _ 𝕄) (rows d L t r slot tbl prm q (filled d L t r slot tbl prm fd) j) := fun j =>
    rowRes_storable (th d L) slot lW (planeM L t r) (chunkRow L (cn t r) % 9216) (chunkOff_le L (cn t r)) q (relW L prm) tbl _ j
  imod (Transfers.batch_alloc' countersEmb (th d L) (default : HIx 1) rowBits (rows d L t r slot tbl prm q (filled d L t r slot tbl prm fd))
    (E := Set.univ)) $$ Hv with HB
  imodintro
  isplitr [HR]
  · isplitl [HB]; · iexact HB
    ihave Hr := (Entails.of_eq (rows_all d L t r slot tbl prm q fd).symm) $$ [Hs Hl Ht]
    · isplitl [Hs]; · iexact Hs
      isplitl [Hl] <;> iassumption
    rw [Transfers.pending_zero]
    iexact Hr
  · iexact HR

/-- Started to the last: what is left is to wait. -/
theorem started_all (fd : Buf (Elt F) (slot.view.loc (th d L))) :
    (Started d L t r slot tbl prm q fd 3072 : sProp 𝕄) ⊢ Landing d L t r slot tbl prm q fd 0 := by
  iintro ⟨HB, -⟩
  iexact HB

/-- The batch closed: the buffer filled, the list and the table whole again. -/
theorem fill_end (fd : Buf (Elt F) (slot.view.loc (th d L))) :
    (iprop(bigSep Finset.univ (rows d L t r slot tbl prm q (filled d L t r slot tbl prm fd)) ∗ Rest d L t r tbl prm q) : sProp 𝕄)
      ⊢ iprop((slot.view.loc (th d L) ↦[slot.view.set]{fullShare} (filled d L t r slot tbl prm fd)) ∗ Sources d L tbl prm q) := by
  rw [rows_all]
  iintro ⟨⟨Hs, Hl, Ht⟩, HR⟩
  isplitl [Hs]; · iexact Hs
  iapply (sources_eq d L t r tbl prm q).2
  isplitl [Hl Ht]
  · isplitl [Hl] <;> iassumption
  · iexact HR

/-! ## The result's rows by ranges -/

/-- The elements of the result's rows from `a` to `b - 1`. -/
def rowsSet (a b : ℕ) : Finset S3538944x16.Idx := Finset.univ.filter fun y => a ≤ (y 0).val ∧ (y 0).val < b

theorem mem_rowsSet {a b : ℕ} {y : S3538944x16.Idx} : y ∈ rowsSet a b ↔ a ≤ (y 0).val ∧ (y 0).val < b := by
  simp [rowsSet]

theorem rowsSet_empty (a : ℕ) : rowsSet a a = ∅ := by
  ext y; rw [mem_rowsSet]; constructor
  · intro h; omega
  · intro h; simp at h

/-- The result's rows from `a` to `b - 1`, at contents `f`. -/
abbrev outPts (f : S3538944x16.Idx → Elt F .f32) (a b : ℕ) : sProp 𝕄 := oLoc d ↦[rowsSet a b]{fullShare} f

theorem outPts_split (f : S3538944x16.Idx → Elt F .f32) {a b c : ℕ} (h₁ : a ≤ b) (h₂ : b ≤ c) :
    (outPts d f a c : sProp 𝕄) ⊣⊢ iprop(outPts d f a b ∗ outPts d f b c) := by
  have hu : rowsSet a c = rowsSet a b ∪ rowsSet b c := by
    ext y; rw [Finset.mem_union, mem_rowsSet, mem_rowsSet, mem_rowsSet]; omega
  have hd : Disjoint (rowsSet a b) (rowsSet b c) := by
    rw [Finset.disjoint_left]; intro y; rw [mem_rowsSet, mem_rowsSet]; omega
  unfold outPts
  rw [hu]
  exact pointsTo_union hd

theorem outPts_empty (f : S3538944x16.Idx → Elt F .f32) (a : ℕ) : (outPts d f a a : sProp 𝕄) = iprop(emp) := by
  unfold outPts; rw [rowsSet_empty]; exact pointsTo_empty

/-! ## The write back -/

/-- The bits of a chunk. -/
abbrev chunkBits : ℕ := 3072 * 512

theorem chunkBits_eq : RefSig.bitCredit S3072x16 .f32 = chunkBits := by decide

/-- A chunk's write back under way on cell `sm`: it delivers the chunk's rows of the result, and the buffer. -/
abbrev Back (n : ℕ) (sm : SemLoc sig) : sProp 𝕄 :=
  Flight countersEmb (th d L) sm (default : HIx 1) chunkBits
    (iprop(outPts d (outV tbl prm) (chunkRow L n) (chunkRow L (n + 1)) ∗ ∃ f, slot.view.loc (th d L) ↦[slot.view.set]{fullShare} f))

theorem outM_set {o : Fin 2 → ℕ} {inb} {n : ℕ} (h : o = ![chunkRow L n, 0]) :
    (oW.slice (Rect.unit (s := S3538944x16) o S3072x16.size inb) (fun _ => rfl)).view.set = rowsSet (chunkRow L n) (chunkRow L (n + 1)) := by
  subst h
  show (View.slice _ _).set = _
  rw [View.set_slice]
  ext y
  rw [mem_rowsSet]
  have hn : chunkRow L (n + 1) = chunkRow L n + 3072 := by unfold chunkRow; omega
  have key : y ∈ (Rect.unit (s := S3538944x16) ![chunkRow L n, 0] S3072x16.size inb).set ↔ (chunkRow L n ≤ (y 0).val ∧ (y 0).val < chunkRow L (n + 1)) := by
    rw [Rect.mem_set_unit]
    constructor
    · intro h; have h0 : chunkRow L n ≤ (y 0).val ∧ (y 0).val < chunkRow L n + 3072 := h 0; omega
    · intro h a
      match a with
      | ⟨0, _⟩ => show chunkRow L n ≤ (y 0).val ∧ (y 0).val < chunkRow L n + 3072; omega
      | ⟨1, _⟩ => show 0 ≤ (y 1).val ∧ (y 1).val < 0 + 16; have : (y 1).val < 16 := (y 1).isLt; omega
  rw [← key]
  simp only [Finset.mem_map]
  constructor
  · rintro ⟨x, hx, rfl⟩; exact hx
  · intro hy; exact ⟨y, hy, rfl⟩

/-- A filled buffer's write back is started. -/
theorem back_start {α : Type} {Q : α → sProp 𝕄} {k : PUnit → Prog (TpuEff nD τ sig (Elt F) Λ₀ (th d L).2) α}
    (fd : Buf (Elt F) (slot.view.loc (th d L))) (fo : S3538944x16.Idx → Elt F .f32) (sem : DmaSem sig)
    {o : Fin 2 → ℕ} {inb} {hsrc hdst hsem} (h : o = ![chunkRow L (cn t r), 0]) :
    (iprop((slot.view.loc (th d L) ↦[slot.view.set]{fullShare} (filled d L t r slot tbl prm fd))
        ∗ outPts d fo (chunkRow L (cn t r)) (chunkRow L (cn t r + 1)) ∗ semVal (th d L, .dma sem) 0) : sProp 𝕄)
      ⊢ iprop((Back d L slot tbl prm (cn t r) (.dma sem) -∗ wp frame (wpE (defs₀ (F := F)) 𝒱₀ (th d L) none) Set.univ (k ⟨⟩) Q)
          -∗ wp frame (wpE (defs₀ (F := F)) 𝒱₀ (th d L) none) Set.univ
            (Prog.lift (.enqueueDma slot (.here (oW.slice (Rect.unit (s := S3538944x16) o S3072x16.size inb) (fun _ => rfl))) (.dma sem)
              hsrc hdst hsem) >>= k) Q) := by
  iintro ⟨Hs, Ho, Hv⟩ Hk
  iapply (Transfers.wp_dmaLocal countersEmb 𝒱₀ (th d L) none (default : HIx 1) chunkBits chunkBits_eq (by decide)
    (Sd := (oW.slice (Rect.unit (s := S3538944x16) o S3072x16.size inb) (fun _ => rfl)).view.set) (fd := fo) (q := fullShare)
    (fs := filled d L t r slot tbl prm fd) (src := slot) (via := .same)
    (dst := oW.slice (Rect.unit (s := S3538944x16) o S3072x16.size inb) (fun _ => rfl)) (sm := .dma sem)
    (Finset.Subset.refl _)) $$ [Hs Ho Hv]
  · isplitl [Hs]; · iexact Hs
    isplitl [Ho]
    · rw [outM_set L h]; iexact Ho
    · iexact Hv
  iintro HF
  iapply Hk
  iapply (Transfers.Flight_mono countersEmb (th d L) ?_) $$ HF
  refine sep_mono (Entails.of_eq ?_) ?_
  · rw [outM_set L h]
    refine pointsTo_congr fun y hy => ?_
    rw [← outM_set L h (inb := inb)] at hy
    obtain ⟨x, -, rfl⟩ := Finset.mem_map.mp hy
    rw [View.write_emb_of_mem _ _ (Finset.mem_univ x)]
    show _ = outV tbl prm _
    rw [ReadAs.apply_same, View.read_write_univ]
    refine (cast_eq _ _).trans ?_
    unfold chunkV
    refine congrArg (outV tbl prm) (funext fun a => Fin.ext ?_)
    subst h
    match a with
    | ⟨0, _⟩ => show chunkRow L (cn t r) + (x 0).val = chunkRow L (cn t r) + 1 * (x 0).val; omega
    | ⟨1, _⟩ => show (x 1).val = 0 + 1 * (x 1).val; omega
  · iintro H; iexists _; iexact H

/-- The wait for a write back: the chunk's rows of the result are written, and the buffer is free. -/
theorem back_wait {α : Type} {Q : α → sProp 𝕄} {k : PUnit → Prog (TpuEff nD τ sig (Elt F) Λ₀ (th d L).2) α}
    (hO : ∀ g, O g none = 0) (n : ℕ) (sem : DmaSem sig) {src : Memref sig .scVector .vmem S3072x16 .f32} {o : Fin 2 → ℕ} {inb} {hsrc hdst} :
    (iprop(Back d L slot tbl prm n (.dma sem) ∗ Owed d L O W) : sProp 𝕄)
      ⊢ iprop((iprop(outPts d (outV tbl prm) (chunkRow L n) (chunkRow L (n + 1)) ∗ (∃ f, slot.view.loc (th d L) ↦[slot.view.set]{fullShare} f)
              ∗ semVal (th d L, .dma sem) 0 ∗ Owed d L O W)
              -∗ wp frame (wpE (defs₀ (F := F)) 𝒱₀ (th d L) none) Set.univ (k ⟨⟩) Q)
          -∗ wp frame (wpE (defs₀ (F := F)) 𝒱₀ (th d L) none) Set.univ
            (Prog.lift (.waitDma2 sem src (oW.slice (Rect.unit (s := S3538944x16) o S3072x16.size inb) (fun _ => rfl)) hsrc hdst) >>= k) Q) := by
  unfold Owed
  iintro ⟨HB, #Hlv, %W', %hW, HO⟩ Hk
  iapply (Transfers.wp_waitLocalO countersEmb 𝒱₀ (th d L) none (default : HIx 1) chunkBits_eq) $$ [HB HO]
  · isplitl [HB]; · iexact HB
    isplitl [HO]; · iexact HO
    iapply (K (F := F)).mayWait_none (.dma sem) hO $$ Hlv
  iintro ⟨⟨Ho, Hs⟩, Hv, HO⟩
  iapply Hk
  isplitl [Ho]; · iexact Ho
  isplitl [Hs]; · iexact Hs
  isplitl [Hv]; · iexact Hv
  isplitr; · iexact Hlv
  iexists (insert (SemLoc.dma sem, (default : HIx 1)) W')
  isplitr; · ipureintro; exact owed_insert W hW _
  iexact HO

end Cert.Proof.KI

end
-- ==== Proof.KI.Parts.lean ====
/-
  The ten parts of a trip of the second loop, run on the resources of the chunk being filled.
-/
module

public import proofs.«01_k».proof.Proof.KI.Steps

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch Flight)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords) (t : Fin k0_t2_loop.trips) (r : Fin 2)
variable (slot : Memref sig .scVector .vmem S3072x16 .f32)
variable (tbl fo : S3538944x16.Idx → Elt F .f32) (prm : S2304.Idx → Elt F .i32) (q : PosShare TreeShare)
variable (O : CellTallies nD τ sig (HIx 1)) (W : Waits sig (HIx 1))

/-- Where the list's window for block `j` of the chunk begins. -/
theorem off3_at (j : Fin 12) : k0_off3 L t (BitVec.ofNat 32 r.val) (BitVec.ofNat 32 (256 * j.val)) = ![chunkRow L (cn t r) % 9216 + 256 * j.val] := by
  rw [k0_off3_eq, chunkRow_eq]

theorem off5_at : k0_off5 L t (BitVec.ofNat 32 r.val) = ![chunkRow L (cn t r), 0] := by
  rw [k0_off5_eq, chunkRow_eq]

/-! ## A buffer at the start of a trip -/

/-- A buffer before its turn in trip `n`: free on the first trip, its last write back under way on the later ones. -/
def Pend (n : ℕ) (slot : Memref sig .scVector .vmem S3072x16 .f32) (r : ℕ) (sem : DmaSem sig) : sProp 𝕄 :=
  if n = 0 then iprop((∃ f, slot.view.loc (th d L) ↦[slot.view.set]{fullShare} f) ∗ semVal (th d L, .dma sem) 0)
  else Back d L slot tbl prm (2 * n + r - 2) (.dma sem)

theorem pend_zero (r : ℕ) (sem : DmaSem sig) :
    Pend d L tbl prm 0 slot r sem = (iprop((∃ f, slot.view.loc (th d L) ↦[slot.view.set]{fullShare} f) ∗ semVal (th d L, .dma sem) 0) : sProp 𝕄) :=
  if_pos rfl

theorem pend_succ (n r : ℕ) (sem : DmaSem sig) : Pend d L tbl prm (n + 1) slot r sem = (Back d L slot tbl prm (2 * n + r) (.dma sem) : sProp 𝕄) := by
  unfold Pend
  rw [if_neg (Nat.succ_ne_zero n), show 2 * (n + 1) + r - 2 = 2 * n + r by omega]

/-- The tile's rows of the result written so far: those of its first `n` chunks. -/
abbrev Done (n : ℕ) : sProp 𝕄 := outPts d (outV tbl prm) (chunkRow L 0) (chunkRow L n)
/-- Those still to be written. -/
abbrev Todo (n : ℕ) : sProp 𝕄 := outPts d fo (chunkRow L n) (chunkRow L 36)

theorem chunkRow_mono {a b : ℕ} (h : a ≤ b) : chunkRow L a ≤ chunkRow L b := by unfold chunkRow; omega

/-- The wait at the head of a buffer's turn, made from the second trip on: the buffer is free. -/
theorem cond_wait {α : Type} {Q : α → sProp 𝕄} {k : Prog (TpuEff nD τ sig (Elt F) Λ₀ (th d L).2) α}
    (hO : ∀ g, O g none = 0) (n r : ℕ) (hr : r < 2) (sem : DmaSem sig) (c : BitVec 1) (hc : c = 1#1 ↔ n ≠ 0)
    (src : Memref sig .scVector .vmem S3072x16 .f32) (o : Fin 2 → ℕ) (inb : c = 1#1 → ∀ a, o a + S3072x16.size a ≤ S3538944x16.size a)
    (hsrc : src.view.WordExact)
    (hdst : ∀ h, (oW.slice (Rect.unit (s := S3538944x16) o S3072x16.size (inb h)) (fun _ => rfl)).view.WordExact) :
    (iprop(Pend d L tbl prm n slot r sem ∗ Done d L tbl prm (2 * n + r - 2) ∗ Owed d L O W) : sProp 𝕄)
      ⊢ iprop((iprop((∃ f, slot.view.loc (th d L) ↦[slot.view.set]{fullShare} f) ∗ semVal (th d L, .dma sem) 0
                ∗ Done d L tbl prm (2 * n + r - 1) ∗ Owed d L O W)
              -∗ wp frame (wpE (defs₀ (F := F)) 𝒱₀ (th d L) none) Set.univ k Q)
          -∗ wp frame (wpE (defs₀ (F := F)) 𝒱₀ (th d L) none) Set.univ
            (if h : c = 1#1 then
              (Prog.lift (.waitDma2 sem src (oW.slice (Rect.unit (s := S3538944x16) o S3072x16.size (inb h)) (fun _ => rfl)) hsrc (hdst h)) >>= fun _ => k)
            else k) Q) := by
  rcases n with _ | n
  · rw [dif_neg (by rw [hc]; simp), pend_zero, show 2 * 0 + r - 2 = 0 by omega, show 2 * 0 + r - 1 = 0 by omega]
    iintro ⟨⟨Hs, Hv⟩, HD, HO⟩ Hk
    iapply Hk
    isplitl [Hs]; · iexact Hs
    isplitl [Hv]; · iexact Hv
    isplitl [HD] <;> iassumption
  · rw [dif_pos (hc.mpr (Nat.succ_ne_zero n)), pend_succ, show 2 * (n + 1) + r - 2 = 2 * n + r by omega,
      show 2 * (n + 1) + r - 1 = 2 * n + r + 1 by omega]
    iintro ⟨HB, HD, HO⟩ Hk
    iapply (back_wait d L slot tbl prm O W hO (2 * n + r) sem) $$ [HB HO]
    · isplitl [HB] <;> iassumption
    iintro ⟨Ho, Hs, Hv, HO⟩
    iapply Hk
    isplitl [Hs]; · iexact Hs
    isplitl [Hv]; · iexact Hv
    isplitr [HO]
    · iapply (outPts_split d (outV tbl prm) (chunkRow_mono L (Nat.zero_le _)) (chunkRow_mono L (Nat.le_succ (2 * n + r)))).2
      isplitl [HD] <;> iassumption
    · iexact HO

theorem cond1_iff : k0_cond1 t = 1#1 ↔ t.val ≠ 0 := by revert t; decide +kernel
theorem cond2_iff : k0_cond2 t = 1#1 ↔ t.val ≠ 0 := by revert t; decide +kernel

/-! ## The parts -/

/-- The first buffer's turn begins: free, its batch opened, three gathers started. -/
theorem part1 (hP : PermOK prm) (hO : ∀ g, O g none = 0) (v2 a b : BitVec 32) :
    (iprop(Pend d L tbl prm t.val aW 0 cc0_scratch5.sem ∗ Done d L tbl prm (2 * t.val + 0 - 2) ∗ Owed d L O W ∗ Sources d L tbl prm q ∗ semVal (th d L, .dma cc0_scratch4.sem) 0) : sProp 𝕄)
      ⊢ wp frame (wpE (defs₀ (F := F)) 𝒱₀ (th d L) none) Set.univ (k0_part1_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 v2 a b t)
          (fun _ => iprop((∃ fd, Started d L t 0 aW tbl prm q fd 768) ∗ Rest d L t 0 tbl prm q ∗ semVal (th d L, .dma cc0_scratch5.sem) 0 ∗ Done d L tbl prm (2 * t.val + 0 - 1) ∗ Owed d L O W)) := by
  unfold k0_part1_skel
  iintro ⟨HP, HD, HO, Hsrc, Hg⟩
  iapply (cond_wait d L aW tbl prm O W hO t.val 0 (by decide) cc0_scratch5.sem (k0_cond1 t) (cond1_iff t) aW (k0_off2 L t) (k0_off2_inb L t)
    _ _) $$ [HP HD HO]
  · isplitl [HP]; · iexact HP
    isplitl [HD] <;> iassumption
  iintro ⟨⟨%fd, Hs⟩, Hv, HD, HO⟩
  imod (fill_begin d L t 0 aW tbl prm q fd) $$ [Hs Hsrc Hg] with ⟨H, HR⟩
  · isplitl [Hs]; · iexact Hs
    isplitl [Hsrc] <;> iassumption
  iapply (start_step d L t 0 aW tbl prm q hP fd 0 256 (by decide) rfl rfl (off3_at L t 0 0)) $$ H; iintro H
  iapply (start_step d L t 0 aW tbl prm q hP fd 256 512 (by decide) rfl rfl (off3_at L t 0 1)) $$ H; iintro H
  iapply (start_step d L t 0 aW tbl prm q hP fd 512 768 (by decide) rfl rfl (off3_at L t 0 2)) $$ H; iintro H
  rw [wp_pure]; imodintro
  isplitl [H]; · iexists fd; iexact H
  isplitl [HR]; · iexact HR
  isplitl [Hv]; · iexact Hv
  isplitl [HD] <;> iassumption

/-- Five more. -/
theorem part2 (hP : PermOK prm) (fd : Buf (Elt F) (aW.view.loc (th d L))) (v : BitVec 32) :
    (Started d L t 0 aW tbl prm q fd 768 : sProp 𝕄)
      ⊢ wp frame (wpE (defs₀ (F := F)) 𝒱₀ (th d L) none) Set.univ (k0_part2_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => Started d L t 0 aW tbl prm q fd 2048) := by
  unfold k0_part2_skel
  iintro H
  iapply (start_step d L t 0 aW tbl prm q hP fd 768 1024 (by decide) rfl rfl (off3_at L t 0 3)) $$ H; iintro H
  iapply (start_step d L t 0 aW tbl prm q hP fd 1024 1280 (by decide) rfl rfl (off3_at L t 0 4)) $$ H; iintro H
  iapply (start_step d L t 0 aW tbl prm q hP fd 1280 1536 (by decide) rfl rfl (off3_at L t 0 5)) $$ H; iintro H
  iapply (start_step d L t 0 aW tbl prm q hP fd 1536 1792 (by decide) rfl rfl (off3_at L t 0 6)) $$ H; iintro H
  iapply (start_step d L t 0 aW tbl prm q hP fd 1792 2048 (by decide) rfl rfl (off3_at L t 0 7)) $$ H; iintro H
  rw [wp_pure]; imodintro
  iexact H

/-- The last four, and the first wait. -/
theorem part3 (hP : PermOK prm) (hO : ∀ g, O g none = 0) (fd : Buf (Elt F) (aW.view.loc (th d L))) (v : BitVec 32) :
    (iprop(Started d L t 0 aW tbl prm q fd 2048 ∗ Owed d L O W) : sProp 𝕄)
      ⊢ wp frame (wpE (defs₀ (F := F)) 𝒱₀ (th d L) none) Set.univ (k0_part3_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => iprop(Landing d L t 0 aW tbl prm q fd 131072 ∗ Owed d L O W)) := by
  unfold k0_part3_skel
  iintro ⟨H, HO⟩
  iapply (start_step d L t 0 aW tbl prm q hP fd 2048 2304 (by decide) rfl rfl (off3_at L t 0 8)) $$ H; iintro H
  iapply (start_step d L t 0 aW tbl prm q hP fd 2304 2560 (by decide) rfl rfl (off3_at L t 0 9)) $$ H; iintro H
  iapply (start_step d L t 0 aW tbl prm q hP fd 2560 2816 (by decide) rfl rfl (off3_at L t 0 10)) $$ H; iintro H
  iapply (start_step d L t 0 aW tbl prm q hP fd 2816 3072 (by decide) rfl rfl (off3_at L t 0 11)) $$ H; iintro H
  ihave H := (started_all d L t 0 aW tbl prm q fd) $$ H
  iapply (drain_step d L t 0 aW tbl prm q O W hO fd 0 131072 (by decide) rfl) $$ [H HO]
  · isplitl [H] <;> iassumption
  iintro H
  rw [wp_pure]; imodintro
  iexact H

/-- Five waits. -/
theorem part4 (hO : ∀ g, O g none = 0) (fd : Buf (Elt F) (aW.view.loc (th d L))) (v : BitVec 32) :
    (iprop(Landing d L t 0 aW tbl prm q fd 131072 ∗ Owed d L O W) : sProp 𝕄)
      ⊢ wp frame (wpE (defs₀ (F := F)) 𝒱₀ (th d L) none) Set.univ (k0_part4_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => iprop(Landing d L t 0 aW tbl prm q fd 786432 ∗ Owed d L O W)) := by
  unfold k0_part4_skel
  iintro H
  iapply (drain_step d L t 0 aW tbl prm q O W hO fd 131072 262144 (by decide) rfl) $$ H; iintro H
  iapply (drain_step d L t 0 aW tbl prm q O W hO fd 262144 393216 (by decide) rfl) $$ H; iintro H
  iapply (drain_step d L t 0 aW tbl prm q O W hO fd 393216 524288 (by decide) rfl) $$ H; iintro H
  iapply (drain_step d L t 0 aW tbl prm q O W hO fd 524288 655360 (by decide) rfl) $$ H; iintro H
  iapply (drain_step d L t 0 aW tbl prm q O W hO fd 655360 786432 (by decide) rfl) $$ H; iintro H
  rw [wp_pure]; imodintro
  iexact H

/-- Five more. -/
theorem part5 (hO : ∀ g, O g none = 0) (fd : Buf (Elt F) (aW.view.loc (th d L))) (v : BitVec 32) :
    (iprop(Landing d L t 0 aW tbl prm q fd 786432 ∗ Owed d L O W) : sProp 𝕄)
      ⊢ wp frame (wpE (defs₀ (F := F)) 𝒱₀ (th d L) none) Set.univ (k0_part5_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => iprop(Landing d L t 0 aW tbl prm q fd 1441792 ∗ Owed d L O W)) := by
  unfold k0_part5_skel
  iintro H
  iapply (drain_step d L t 0 aW tbl prm q O W hO fd 786432 917504 (by decide) rfl) $$ H; iintro H
  iapply (drain_step d L t 0 aW tbl prm q O W hO fd 917504 1048576 (by decide) rfl) $$ H; iintro H
  iapply (drain_step d L t 0 aW tbl prm q O W hO fd 1048576 1179648 (by decide) rfl) $$ H; iintro H
  iapply (drain_step d L t 0 aW tbl prm q O W hO fd 1179648 1310720 (by decide) rfl) $$ H; iintro H
  iapply (drain_step d L t 0 aW tbl prm q O W hO fd 1310720 1441792 (by decide) rfl) $$ H; iintro H
  rw [wp_pure]; imodintro
  iexact H

/-- The first buffer is full and its write back started; the second's turn begins. -/
theorem part6 (hP : PermOK prm) (hO : ∀ g, O g none = 0) (fd : Buf (Elt F) (aW.view.loc (th d L))) (v2 a : BitVec 32) :
    (iprop(Landing d L t 0 aW tbl prm q fd 1441792 ∗ Owed d L O W ∗ Rest d L t 0 tbl prm q ∗ semVal (th d L, .dma cc0_scratch5.sem) 0 ∗ Todo d L fo (2 * t.val) ∗ Pend d L tbl prm t.val bW 1 cc0_scratch6.sem ∗ Done d L tbl prm (2 * t.val + 1 - 2)) : sProp 𝕄)
      ⊢ wp frame (wpE (defs₀ (F := F)) 𝒱₀ (th d L) none) Set.univ (k0_part6_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 v2 t a)
          (fun _ => iprop((∃ fd, Started d L t 1 bW tbl prm q fd 512) ∗ Rest d L t 1 tbl prm q ∗ semVal (th d L, .dma cc0_scratch6.sem) 0 ∗ Done d L tbl prm (2 * t.val + 1 - 1) ∗ Owed d L O W ∗ Todo d L fo (2 * t.val + 1) ∗ Back d L aW tbl prm (2 * t.val) (.dma cc0_scratch5.sem))) := by
  unfold k0_part6_skel
  iintro ⟨H, HO, HR, Hv, HT, HP, HD⟩
  iapply (drain_last d L t 0 aW tbl prm q O W hO fd 1441792 (by decide)) $$ [H HO]
  · isplitl [H] <;> iassumption
  iintro ⟨H, Hg, HO⟩
  ihave H' := (fill_end d L t 0 aW tbl prm q fd) $$ [H HR]
  · isplitl [H] <;> iassumption
  icases H' with ⟨Hs, Hsrc⟩
  have ht := trips2 t
  ihave HT' := (outPts_split d fo (chunkRow_mono L (Nat.le_succ (2 * t.val))) (chunkRow_mono L (show 2 * t.val + 1 ≤ 36 by omega))).1 $$ HT
  icases HT' with ⟨Hc, HT⟩
  iapply (back_start d L t 0 aW tbl prm fd fo cc0_scratch5.sem (off5_at L t 0)) $$ [Hs Hc Hv]
  · isplitl [Hs]; · iexact Hs
    isplitl [Hc] <;> iassumption
  iintro HB
  iapply (cond_wait d L bW tbl prm O W hO t.val 1 (by decide) cc0_scratch6.sem (k0_cond2 t) (cond2_iff t) bW (k0_off6 L t) (k0_off6_inb L t)
    _ _) $$ [HP HD HO]
  · isplitl [HP]; · iexact HP
    isplitl [HD] <;> iassumption
  iintro ⟨⟨%fe, Hs⟩, Hv, HD, HO⟩
  imod (fill_begin d L t 1 bW tbl prm q fe) $$ [Hs Hsrc Hg] with ⟨H, HR⟩
  · isplitl [Hs]; · iexact Hs
    isplitl [Hsrc] <;> iassumption
  iapply (start_step d L t 1 bW tbl prm q hP fe 0 256 (by decide) rfl rfl (off3_at L t 1 0)) $$ H; iintro H
  iapply (start_step d L t 1 bW tbl prm q hP fe 256 512 (by decide) rfl rfl (off3_at L t 1 1)) $$ H; iintro H
  rw [wp_pure]; imodintro
  isplitl [H]; · iexists fe; iexact H
  isplitl [HR]; · iexact HR
  isplitl [Hv]; · iexact Hv
  isplitl [HD]; · iexact HD
  isplitl [HO]; · iexact HO
  isplitl [HT] <;> iassumption

/-- Five more. -/
theorem part7 (hP : PermOK prm) (fd : Buf (Elt F) (bW.view.loc (th d L))) (v : BitVec 32) :
    (Started d L t 1 bW tbl prm q fd 512 : sProp 𝕄)
      ⊢ wp frame (wpE (defs₀ (F := F)) 𝒱₀ (th d L) none) Set.univ (k0_part7_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => Started d L t 1 bW tbl prm q fd 1792) := by
  unfold k0_part7_skel
  iintro H
  iapply (start_step d L t 1 bW tbl prm q hP fd 512 768 (by decide) rfl rfl (off3_at L t 1 2)) $$ H; iintro H
  iapply (start_step d L t 1 bW tbl prm q hP fd 768 1024 (by decide) rfl rfl (off3_at L t 1 3)) $$ H; iintro H
  iapply (start_step d L t 1 bW tbl prm q hP fd 1024 1280 (by decide) rfl rfl (off3_at L t 1 4)) $$ H; iintro H
  iapply (start_step d L t 1 bW tbl prm q hP fd 1280 1536 (by decide) rfl rfl (off3_at L t 1 5)) $$ H; iintro H
  iapply (start_step d L t 1 bW tbl prm q hP fd 1536 1792 (by decide) rfl rfl (off3_at L t 1 6)) $$ H; iintro H
  rw [wp_pure]; imodintro
  iexact H

/-- The last five. -/
theorem part8 (hP : PermOK prm) (fd : Buf (Elt F) (bW.view.loc (th d L))) (v : BitVec 32) :
    (Started d L t 1 bW tbl prm q fd 1792 : sProp 𝕄)
      ⊢ wp frame (wpE (defs₀ (F := F)) 𝒱₀ (th d L) none) Set.univ (k0_part8_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => Started d L t 1 bW tbl prm q fd 3072) := by
  unfold k0_part8_skel
  iintro H
  iapply (start_step d L t 1 bW tbl prm q hP fd 1792 2048 (by decide) rfl rfl (off3_at L t 1 7)) $$ H; iintro H
  iapply (start_step d L t 1 bW tbl prm q hP fd 2048 2304 (by decide) rfl rfl (off3_at L t 1 8)) $$ H; iintro H
  iapply (start_step d L t 1 bW tbl prm q hP fd 2304 2560 (by decide) rfl rfl (off3_at L t 1 9)) $$ H; iintro H
  iapply (start_step d L t 1 bW tbl prm q hP fd 2560 2816 (by decide) rfl rfl (off3_at L t 1 10)) $$ H; iintro H
  iapply (start_step d L t 1 bW tbl prm q hP fd 2816 3072 (by decide) rfl rfl (off3_at L t 1 11)) $$ H; iintro H
  rw [wp_pure]; imodintro
  iexact H

/-- Five waits. -/
theorem part9 (hO : ∀ g, O g none = 0) (fd : Buf (Elt F) (bW.view.loc (th d L))) (v : BitVec 32) :
    (iprop(Landing d L t 1 bW tbl prm q fd 0 ∗ Owed d L O W) : sProp 𝕄)
      ⊢ wp frame (wpE (defs₀ (F := F)) 𝒱₀ (th d L) none) Set.univ (k0_part9_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => iprop(Landing d L t 1 bW tbl prm q fd 655360 ∗ Owed d L O W)) := by
  unfold k0_part9_skel
  iintro H
  iapply (drain_step d L t 1 bW tbl prm q O W hO fd 0 131072 (by decide) rfl) $$ H; iintro H
  iapply (drain_step d L t 1 bW tbl prm q O W hO fd 131072 262144 (by decide) rfl) $$ H; iintro H
  iapply (drain_step d L t 1 bW tbl prm q O W hO fd 262144 393216 (by decide) rfl) $$ H; iintro H
  iapply (drain_step d L t 1 bW tbl prm q O W hO fd 393216 524288 (by decide) rfl) $$ H; iintro H
  iapply (drain_step d L t 1 bW tbl prm q O W hO fd 524288 655360 (by decide) rfl) $$ H; iintro H
  rw [wp_pure]; imodintro
  iexact H

/-- Five more. -/
theorem part10 (hO : ∀ g, O g none = 0) (fd : Buf (Elt F) (bW.view.loc (th d L))) (v : BitVec 32) :
    (iprop(Landing d L t 1 bW tbl prm q fd 655360 ∗ Owed d L O W) : sProp 𝕄)
      ⊢ wp frame (wpE (defs₀ (F := F)) 𝒱₀ (th d L) none) Set.univ (k0_part10_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t v)
          (fun _ => iprop(Landing d L t 1 bW tbl prm q fd 1310720 ∗ Owed d L O W)) := by
  unfold k0_part10_skel
  iintro H
  iapply (drain_step d L t 1 bW tbl prm q O W hO fd 655360 786432 (by decide) rfl) $$ H; iintro H
  iapply (drain_step d L t 1 bW tbl prm q O W hO fd 786432 917504 (by decide) rfl) $$ H; iintro H
  iapply (drain_step d L t 1 bW tbl prm q O W hO fd 917504 1048576 (by decide) rfl) $$ H; iintro H
  iapply (drain_step d L t 1 bW tbl prm q O W hO fd 1048576 1179648 (by decide) rfl) $$ H; iintro H
  iapply (drain_step d L t 1 bW tbl prm q O W hO fd 1179648 1310720 (by decide) rfl) $$ H; iintro H
  rw [wp_pure]; imodintro
  iexact H

end Cert.Proof.KI

end
-- ==== Proof.KI.Trip.lean ====
/-
  A trip of the second loop: both buffers filled and their write backs started, from the resources the trips before it
  left.
-/
module

public import proofs.«01_k».proof.Proof.KI.Parts

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch Flight)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords) (t : Fin k0_t2_loop.trips)
variable (tbl fo : S3538944x16.Idx → Elt F .f32) (prm : S2304.Idx → Elt F .i32) (q : PosShare TreeShare)
variable (O : CellTallies nD τ sig (HIx 1)) (W : Waits sig (HIx 1))

/-- What trip `n` begins with: the list and the table, the two buffers, the rows written and those to be written. -/
def Inv2 (n : ℕ) : sProp 𝕄 :=
  iprop(Owed d L O W ∗ Sources d L tbl prm q ∗ semVal (th d L, .dma cc0_scratch4.sem) 0
    ∗ Pend d L tbl prm n aW 0 cc0_scratch5.sem ∗ Pend d L tbl prm n bW 1 cc0_scratch6.sem
    ∗ Done d L tbl prm (2 * n - 2) ∗ Todo d L fo (2 * n))

/-- A part run in the middle of a program. -/
theorem run {α : Type} {p : Prog (TpuEff nD τ sig (Elt F) Λ₀ (th d L).2) α} {P : sProp 𝕄} {R Q : α → sProp 𝕄}
    (h : P ⊢ wp frame (wpE (defs₀ (F := F)) 𝒱₀ (th d L) none) Set.univ p R) : P ⊢ iprop((∀ a, R a -∗ Q a) -∗ wp frame (wpE (defs₀ (F := F)) 𝒱₀ (th d L) none) Set.univ p Q) :=
  h.trans (wp_wand _ _ _)

theorem trip (hP : PermOK prm) (hO : ∀ g, O g none = 0) (v2 : BitVec 32) :
    (Inv2 d L tbl fo prm q O W t.val : sProp 𝕄)
      ⊢ wp frame (wpE (defs₀ (F := F)) 𝒱₀ (th d L) none) Set.univ (k0_t2_body L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 v2 t ⟨⟩) (fun _ => Inv2 d L tbl fo prm q O W (t.val + 1)) := by
  unfold k0_t2_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  rw [wp_bind]
  unfold Inv2
  iintro ⟨HO, Hsrc, Hg, HPa, HPb, HD, HT⟩
  iapply (run d L (part1 d L t tbl prm q O W hP hO v2 0#32 1#32)) $$ [HO Hsrc Hg HPa HD]
  · isplitl [HPa]; · iexact HPa
    isplitl [HD]; · iexact HD
    isplitl [HO]; · iexact HO
    isplitl [Hsrc] <;> iassumption
  iintro %a ⟨⟨%fd, H⟩, HR, Hv, HD, HO⟩
  obtain ⟨a12, v33⟩ := a
  dsimp only
  rw [wp_bind]
  iapply (run d L (part2 d L t tbl prm q hP fd v33)) $$ H
  iintro %_ H
  rw [wp_bind]
  iapply (run d L (part3 d L t tbl prm q O W hP hO fd v33)) $$ [H HO]
  · isplitl [H] <;> iassumption
  iintro %_ H
  rw [wp_bind]
  iapply (run d L (part4 d L t tbl prm q O W hO fd v33)) $$ H
  iintro %_ H
  rw [wp_bind]
  iapply (run d L (part5 d L t tbl prm q O W hO fd v33)) $$ H
  iintro %_ H
  icases H with ⟨H, HO⟩
  rw [wp_bind]
  ihave HD := (Entails.of_eq (congrArg (Done d L tbl prm) (show 2 * t.val + 0 - 1 = 2 * t.val + 1 - 2 by omega))) $$ HD
  iapply (run d L (part6 d L t tbl fo prm q O W hP hO fd v2 a12)) $$ [H HO HR Hv HT HPb HD]
  · isplitl [H]; · iexact H
    isplitl [HO]; · iexact HO
    isplitl [HR]; · iexact HR
    isplitl [Hv]; · iexact Hv
    isplitl [HT]; · iexact HT
    isplitl [HPb] <;> iassumption
  iintro %v165 ⟨⟨%fe, H⟩, HR, Hv, HD, HO, HT, HBa⟩
  rw [wp_bind]
  iapply (run d L (part7 d L t tbl prm q hP fe v165)) $$ H
  iintro %_ H
  rw [wp_bind]
  iapply (run d L (part8 d L t tbl prm q hP fe v165)) $$ H
  iintro %_ H
  ihave H := (started_all d L t 1 bW tbl prm q fe) $$ H
  rw [wp_bind]
  iapply (run d L (part9 d L t tbl prm q O W hO fe v165)) $$ [H HO]
  · isplitl [H] <;> iassumption
  iintro %_ H
  rw [wp_bind]
  iapply (run d L (part10 d L t tbl prm q O W hO fe v165)) $$ H
  iintro %_ H
  iapply (drain_step d L t 1 bW tbl prm q O W hO fe 1310720 1441792 (by decide) rfl) $$ H; iintro H
  iapply (drain_last d L t 1 bW tbl prm q O W hO fe 1441792 (by decide)) $$ H
  iintro ⟨H, Hg, HO⟩
  ihave H' := (fill_end d L t 1 bW tbl prm q fe) $$ [H HR]
  · isplitl [H] <;> iassumption
  icases H' with ⟨Hs, Hsrc⟩
  have ht := trips2 t
  ihave HT' := (outPts_split d fo (chunkRow_mono L (Nat.le_succ (2 * t.val + 1))) (chunkRow_mono L (show 2 * t.val + 1 + 1 ≤ 36 by omega))).1 $$ HT
  icases HT' with ⟨Hc, HT⟩
  iapply (back_start d L t 1 bW tbl prm fe fo cc0_scratch6.sem (off5_at L t 1)) $$ [Hs Hc Hv]
  · isplitl [Hs]; · iexact Hs
    isplitl [Hc] <;> iassumption
  iintro HBb
  rw [wp_pure, pend_succ, pend_succ, show 2 * t.val + 1 - 1 = 2 * (t.val + 1) - 2 by omega]
  imodintro
  isplitl [HO]; · iexact HO
  isplitl [Hsrc]; · iexact Hsrc
  isplitl [Hg]; · iexact Hg
  isplitl [HBa]; · iexact HBa
  isplitl [HBb]; · iexact HBb
  isplitl [HD] <;> iassumption

end Cert.Proof.KI

end
-- ==== Proof.KI.Rel.lean ====
/-
  The first loop: trip by trip the list of row numbers is written, sixteen words at a time.
-/
module

public import proofs.«01_k».proof.Proof.KI.Trip

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch Flight)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable (prm : S2304.Idx → Elt F .i32)

/-- The vector a trip reads from the permutations. -/
abbrev readV (t : Fin k0_t1_loop.trips) : Vec F S16 .i32 :=
  loadIdx ((qW.access (.whole S2304)).read (Elt F) prm) ![k0_pay3 L t] (k0_idx1_inb (k0_pay3 L t) (chk1 L t))

theorem readV_apply (t : Fin k0_t1_loop.trips) (x : S16.Idx) :
    readV L prm t x = BitVec.ofNat 32 (permAt prm (wid L / 8 * 576 + gridPos (row1 t.val x))) := by
  have hw := wid_lt L
  have hg := gridPos_lt (row1_lt (trips1 t) x)
  have hlt : wid L / 8 * 576 + gridPos (row1 t.val x) < 2304 := by omega
  unfold permAt
  rw [dif_pos hlt, BitVec.ofNat_toNat, BitVec.setWidth_eq]
  show (qW.access (.whole S2304)).read (Elt F) prm _ = prm _
  rw [View.read_apply]
  refine (cast_eq _ _).trans ?_
  refine congrArg prm (funext fun a => Fin.ext ?_)
  match a with
  | ⟨0, _⟩ =>
    show 0 + 1 * (k0_pay3 L t x).toNat = wid L / 8 * 576 + gridPos (row1 t.val x)
    rw [pay3_word, BitVec.toNat_ofNat, Nat.mod_eq_of_lt (by omega), Nat.zero_add, Nat.one_mul]

/-- The vector a trip writes is the list's sixteen words there. -/
theorem written_apply (hP : PermOK prm) (t : Fin k0_t1_loop.trips) (x : S16.Idx) (y : S9216.Idx) (hy : (y 0).val = row1 t.val x) :
    k0_pay4 t (readV L prm t) x = relW L prm y := by
  rw [pay4_word t _ x _ (readV_apply L prm t x) (permAt_lt hP _)]
  unfold relW
  rw [hy]

/-- The list with its first `n` words written. -/
def Listed (n : ℕ) (f : S9216.Idx → Elt F .i32) : Prop := ∀ y : S9216.Idx, (y 0).val < n → f y = relW L prm y

theorem listed_all {f : S9216.Idx → Elt F .i32} (h : Listed L prm 9216 f) : f = relW L prm := funext fun y => h y (y 0).isLt

/-- The words trip `t` writes. -/
abbrev rect1 (t : Fin k0_t1_loop.trips) : Rect S9216 := Rect.unit (s := S9216) (k0_off1 t) S16.size (k0_off1_inb t)

theorem listed_step (hP : PermOK prm) (t : Fin k0_t1_loop.trips) {f : S9216.Idx → Elt F .i32} (h : Listed L prm (16 * t.val) f) :
    Listed L prm (16 * (t.val + 1)) ((lW.access (rect1 t)).write (Elt F) f (k0_pay4 t (readV L prm t)) Finset.univ) := by
  intro y hy
  by_cases hlo : 16 * t.val ≤ (y 0).val
  · have hx : (y 0).val - 16 * t.val < 16 := by omega
    have he : (lW.access (rect1 t)).emb (ix1 (n0 := 16) ⟨(y 0).val - 16 * t.val, hx⟩) = y := by
      refine funext fun a => Fin.ext ?_
      match a with
      | ⟨0, _⟩ =>
        show k0_off1 t 0 + 1 * ((y 0).val - 16 * t.val) = (y 0).val
        rw [k0_off1_eq]; show 16 * t.val + 1 * ((y 0).val - 16 * t.val) = (y 0).val; omega
    have hw := View.write_emb_of_mem (Val := Elt F) (v := lW.access (rect1 t)) f (k0_pay4 t (readV L prm t))
      (Finset.mem_univ (ix1 (n0 := 16) ⟨(y 0).val - 16 * t.val, hx⟩))
    rw [he] at hw
    refine hw.trans ((cast_eq _ _).trans (written_apply L prm hP t _ y ?_))
    show (y 0).val = 16 * t.val + ((y 0).val - 16 * t.val); omega
  · refine (View.write_of_not_mem (Val := Elt F) (v := lW.access (rect1 t)) f _ Finset.univ ?_).trans (h y (by omega))
    intro hm
    obtain ⟨x, -, hx⟩ := Finset.mem_map.mp hm
    have h0 : k0_off1 t 0 + 1 * (x 0).val = (y 0).val := congrArg (fun z => (z 0).val) hx
    rw [k0_off1_eq] at h0
    have h1 : 16 * t.val + 1 * (x 0).val = (y 0).val := h0
    omega

/-- What trip `n` begins with: the permutations, and the list with its first words written. -/
def Inv1 (n : ℕ) : sProp 𝕄 :=
  iprop((qW.view.loc (th d L) ↦[Finset.univ]{fullShare} prm)
    ∗ ∃ f, ⌜Listed L prm (16 * n) f⌝ ∗ (lW.view.loc (th d L) ↦[Finset.univ]{fullShare} f))

theorem assume_step {P : Prop} {dP : Decidable P} {α : Type} {Q : α → sProp 𝕄} {k : PLift P → Prog (TpuEff nD τ sig (Elt F) Λ₀ (th d L).2) α}
    (h : P) : wp frame (wpE (defs₀ (F := F)) 𝒱₀ (th d L) none) Set.univ (Prog.lift (.assume P dP) >>= k) Q = (wp frame (wpE (defs₀ (F := F)) 𝒱₀ (th d L) none) Set.univ (k ⟨h⟩) Q : sProp 𝕄) :=
  wp_assume_of 𝒱₀ (th d L) none Set.univ h

theorem ret_step {α : Type} {Q : α → sProp 𝕄} {a : α} : Q a ⊢ (wp frame (wpE (defs₀ (F := F)) 𝒱₀ (th d L) none) Set.univ (.ret a) Q : sProp 𝕄) := fupd_intro

theorem trip1 (hP : PermOK prm) (t : Fin k0_t1_loop.trips) :
    (Inv1 d L prm t.val : sProp 𝕄)
      ⊢ wp frame (wpE (defs₀ (F := F)) 𝒱₀ (th d L) none) Set.univ (k0_t1_body L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0 t ⟨⟩) (fun _ => Inv1 d L prm (t.val + 1)) := by
  unfold k0_t1_body Inv1
  iintro ⟨Hq, %f, %hf, Hl⟩
  rw [assume_step d L (chk1 L t)]
  iapply (SparseCore.wp_vectorLoadIdx 𝒱₀ (th d L) none Set.univ (base := qW) (S := Finset.univ) (q := fullShare) (f := prm) (Finset.subset_univ _)) $$ Hq
  iintro Hq
  iapply (wp_load 𝒱₀ (th d L) none Set.univ (m := lW) (S := Finset.univ) (Finset.subset_univ _)) $$ Hl; iintro Hl
  iapply (wp_store 𝒱₀ (th d L) none Set.univ (m := lW) (r := rect1 t) (Mk := Finset.univ) (S := Finset.univ) (Finset.subset_univ _)) $$ Hl; iintro Hl
  iapply (ret_step d L)
  isplitl [Hq]; · iexact Hq
  iexists ((lW.access (rect1 t)).write (Elt F) f (k0_pay4 t (readV L prm t)) Finset.univ)
  isplitr; · ipureintro; exact listed_step L prm hP t hf
  iexact Hl

end Cert.Proof.KI

end
-- ==== Proof.KI.Tile.lean ====
/-
  A tile's whole task: the permutations fetched, the list computed, the thirty-six chunks filled and written back.
-/
module

public import proofs.«01_k».proof.Proof.KI.Rel

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay)
open Idealize.ShloMosaic.Transfers (pending Batch Flight)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable (tbl fo : S3538944x16.Idx → Elt F .f32) (prm : S2304.Idx → Elt F .i32) (q q' : PosShare TreeShare)
variable (O : CellTallies nD τ sig (HIx 1)) (W : Waits sig (HIx 1))

/-! ## The fetch of the permutations -/

abbrev fetchBits : ℕ := 2304 * 32
theorem fetchBits_eq : RefSig.bitCredit S2304 .i32 = fetchBits := by decide

theorem fetch {α : Type} {Q : α → sProp 𝕄} {k : PUnit → Prog (TpuEff nD τ sig (Elt F) Λ₀ (th d L).2) α} (hO : ∀ g, O g none = 0)
    (f : Buf (Elt F) (qW.view.loc (th d L))) {hsrc hdst hsem hsrc' hdst'} :
    (iprop((pW.view.loc (th d L) ↦[Finset.univ]{q'} prm) ∗ (qW.view.loc (th d L) ↦[Finset.univ]{fullShare} f)
        ∗ semVal (th d L, .dma cc0_scoped0.sem) 0 ∗ Owed d L O W) : sProp 𝕄)
      ⊢ iprop((iprop((pW.view.loc (th d L) ↦[Finset.univ]{q'} prm) ∗ (qW.view.loc (th d L) ↦[Finset.univ]{fullShare} prm)
                ∗ semVal (th d L, .dma cc0_scoped0.sem) 0 ∗ Owed d L O W)
              -∗ wp frame (wpE (defs₀ (F := F)) 𝒱₀ (th d L) none) Set.univ (k ⟨⟩) Q)
          -∗ wp frame (wpE (defs₀ (F := F)) 𝒱₀ (th d L) none) Set.univ
            (Prog.lift (.enqueueDma pW (.here qW) (.dma cc0_scoped0.sem) hsrc hdst hsem) >>= fun _ =>
              Prog.lift (.waitDma2 cc0_scoped0.sem pW qW hsrc' hdst') >>= k) Q) := by
  have hp : pW.view.set = Finset.univ := View.set_whole _
  have hq : qW.view.set = Finset.univ := View.set_whole _
  unfold Owed
  iintro ⟨Hp, Hq, Hv, #Hlv, %W', %hW, HO⟩ Hk
  iapply (Transfers.wp_dmaLocal countersEmb 𝒱₀ (th d L) none (default : HIx 1) fetchBits fetchBits_eq (by decide)
    (Sd := Finset.univ) (fd := f) (q := q') (fs := prm) (src := pW) (via := .same) (dst := qW) (sm := .dma cc0_scoped0.sem)
    (Finset.subset_univ _)) $$ [Hp Hq Hv]
  · rw [hp]
    isplitl [Hp]; · iexact Hp
    isplitl [Hq] <;> iassumption
  iintro HF
  iapply (Transfers.wp_waitLocalO countersEmb 𝒱₀ (th d L) none (default : HIx 1) (dstw := qW) (srcw := pW) fetchBits_eq) $$ [HF HO]
  · isplitl [HF]; · iexact HF
    isplitl [HO]; · iexact HO
    iapply (K (F := F)).mayWait_none (.dma cc0_scoped0.sem) hO $$ Hlv
  iintro ⟨⟨Hq, Hp⟩, Hv, HO⟩
  ihave Hp := (Entails.of_eq (congrArg (fun S => (pW.view.loc (th d L) ↦[S]{q'} prm : sProp 𝕄)) hp)) $$ Hp
  iapply Hk
  isplitl [Hp]; · iexact Hp
  isplitl [Hq]
  · iapply (Entails.of_eq (pointsTo_congr fun y _ => congrFun (View.write_whole_univ (Val := Elt F) cc0_scratch0 f prm) y)) $$ Hq
  isplitl [Hv]; · iexact Hv
  isplitr; · iexact Hlv
  iexists (insert (SemLoc.dma cc0_scoped0.sem, (default : HIx 1)) W')
  isplitr; · ipureintro; exact owed_insert W hW _
  iexact HO

/-! ## The task -/

theorem trips2_eq : Scf.trips k0_t2_loop.lb k0_t2_loop.ub k0_t2_loop.st = 17 + 1 := by decide +kernel

/-- What a task is given of HBM: its shares of the table and of the permutations, its rows of the result. -/
abbrev Given : sProp 𝕄 :=
  iprop((tLoc d ↦[Finset.univ]{q} tbl) ∗ (pLoc d ↦[Finset.univ]{q'} prm) ∗ outPts d fo (chunkRow L 0) (chunkRow L 36))

/-- The subcore's own storage: its four buffers at some contents, its four cells at zero. -/
abbrev Own : sProp 𝕄 :=
  iprop((∃ f, qW.view.loc (th d L) ↦[Finset.univ]{fullShare} f) ∗ (∃ f, lW.view.loc (th d L) ↦[Finset.univ]{fullShare} f)
    ∗ (∃ f, aW.view.loc (th d L) ↦[Finset.univ]{fullShare} f) ∗ (∃ f, bW.view.loc (th d L) ↦[Finset.univ]{fullShare} f)
    ∗ semVal (th d L, .dma cc0_scratch4.sem) 0 ∗ semVal (th d L, .dma cc0_scratch5.sem) 0
    ∗ semVal (th d L, .dma cc0_scratch6.sem) 0 ∗ semVal (th d L, .dma cc0_scoped0.sem) 0)

theorem task (hP : PermOK prm) (hO : ∀ g, O g none = 0) :
    (iprop(Given d L tbl fo prm q q' ∗ Own d L ∗ Owed d L O W) : sProp 𝕄)
      ⊢ wp frame (wpE (defs₀ (F := F)) 𝒱₀ (th d L) none) Set.univ (cc0_shuffle_skel L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0)
          (fun _ => iprop(Given d L tbl (outV tbl prm) prm q q' ∗ Own d L ∗ Owed d L O W)) := by
  have ha : aW.view.set = Finset.univ := View.set_whole _
  have hb : bW.view.set = Finset.univ := View.set_whole _
  unfold cc0_shuffle_skel
  iintro ⟨⟨Ht, Hp, Ho⟩, ⟨⟨%fq, Hq⟩, ⟨%fl, Hl⟩, ⟨%fa, Ha⟩, ⟨%fb, Hb⟩, Hg, Hw0, Hw1, Hs⟩, HO⟩
  iapply (fetch d L prm q' O W hO fq) $$ [Hp Hq Hs HO]
  · isplitl [Hp]; · iexact Hp
    isplitl [Hq]; · iexact Hq
    isplitl [Hs] <;> iassumption
  iintro ⟨Hp, Hq, Hs, HO⟩
  sl_for (fun n _ => Inv1 d L prm n) $$ [Hq Hl]
  case region => intro k _; exact trip1 d L prm hP k
  · unfold Inv1
    isplitl [Hq]; · iexact Hq
    iexists fl
    isplitr; · ipureintro; intro y hy; exact absurd hy (Nat.not_lt_zero _)
    iexact Hl
  iintro %_ HI
  unfold Inv1
  icases HI with ⟨Hq, %f, %hf, Hl⟩
  have hf' : f = relW L prm := listed_all L prm hf
  subst hf'
  sl_for (fun n _ => Inv2 d L tbl fo prm q O W n) $$ [HO Hl Ht Hg Ha Hb Hw0 Hw1 Ho]
  case region => intro k _; exact trip d L k tbl fo prm q O W hP hO _
  · unfold Inv2
    rw [pend_zero, pend_zero, ha, hb]
    isplitl [HO]; · iexact HO
    isplitl [Hl Ht]; · isplitl [Hl] <;> iassumption
    isplitl [Hg]; · iexact Hg
    isplitl [Ha Hw0]
    · isplitl [Ha]; · iexists fa; iexact Ha
      iexact Hw0
    isplitl [Hb Hw1]
    · isplitl [Hb]; · iexists fb; iexact Hb
      iexact Hw1
    isplitr [Ho]
    · iapply (Entails.of_eq (outPts_empty d (outV tbl prm) (chunkRow L 0)).symm); iempintro
    · iexact Ho
  iintro %_ HI
  unfold Inv2
  rw [trips2_eq, pend_succ, pend_succ]
  icases HI with ⟨HO, ⟨Hl, Ht⟩, Hg, HBa, HBb, HD, -⟩
  iapply (back_wait d L aW tbl prm O W hO 34 cc0_scratch5.sem) $$ [HBa HO]
  · isplitl [HBa] <;> iassumption
  iintro ⟨Ho, ⟨%ga, Ha⟩, Hw0, HO⟩
  ihave HD := (outPts_split d (outV tbl prm) (chunkRow_mono L (Nat.zero_le 34)) (chunkRow_mono L (Nat.le_succ 34))).2 $$ [HD Ho]
  · isplitl [HD] <;> iassumption
  iapply (back_wait d L bW tbl prm O W hO 35 cc0_scratch6.sem) $$ [HBb HO]
  · isplitl [HBb] <;> iassumption
  iintro ⟨Ho, ⟨%gb, Hb⟩, Hw1, HO⟩
  ihave HD := (outPts_split d (outV tbl prm) (chunkRow_mono L (Nat.zero_le 35)) (chunkRow_mono L (Nat.le_succ 35))).2 $$ [HD Ho]
  · isplitl [HD] <;> iassumption
  rw [ha, hb]
  rw [wp_pure]; imodintro
  isplitl [Ht Hp HD]
  · isplitl [Ht]; · iexact Ht
    isplitl [Hp] <;> iassumption
  isplitr [HO]
  · isplitl [Hq]; · iexists _; iexact Hq
    isplitl [Hl]; · iexists _; iexact Hl
    isplitl [Ha]; · iexists _; iexact Ha
    isplitl [Hb]; · iexists _; iexact Hb
    isplitl [Hg]; · iexact Hg
    isplitl [Hw0]; · iexact Hw0
    isplitl [Hw1] <;> iassumption
  · iexact HO

end Cert.Proof.KI

end
-- ==== Proof.KI.Launch.lean ====
/-
  The call as the launch theorem asks for it: a tile's own buffers and semaphores spelt out, its task between the shares
  it is dealt, and how the table, the permutations and the result are dealt to the thirty-two tiles.
-/
module

public import proofs.«01_k».proof.Proof.KI.Tile
public import Idealize.ShloMosaic.Lib.Ring.Tabled

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's own buffers and semaphores -/

section Own

variable (d : Dev nD) (L : grid0.Coords)

abbrev cellG : GSem nD τ sig := (th d L, .dma cc0_scratch4.sem)
abbrev cellA : GSem nD τ sig := (th d L, .dma cc0_scratch5.sem)
abbrev cellB : GSem nD τ sig := (th d L, .dma cc0_scratch6.sem)
abbrev cellF : GSem nD τ sig := (th d L, .dma cc0_scoped0.sem)

/-- The cells of the tile's own that the task does not use. -/
abbrev otherCells : Finset (GSem nD τ sig) :=
  ((((ownCells (th d L)).erase (cellG d L)).erase (cellA d L)).erase (cellB d L)).erase (cellF d L)

theorem own_cell {s : DmaSem sig} (h : (SemLoc.dma s : SemLoc sig).isScoped .scVector = true) :
    ((th d L, .dma s) : GSem nD τ sig) ∈ ownCells (th d L) := mem_ownCells.mpr ⟨rfl, h⟩

theorem ownSems_eq :
    (ownSems0 (th d L) : sProp 𝕄)
      = iprop(semVal (cellG d L) 0 ∗ semVal (cellA d L) 0 ∗ semVal (cellB d L) 0 ∗ semVal (cellF d L) 0
          ∗ bigSep (otherCells d L) fun g => semVal g 0) := by
  have hG := own_cell d L (s := cc0_scratch4.sem) (by decide)
  have hA := own_cell d L (s := cc0_scratch5.sem) (by decide)
  have hB := own_cell d L (s := cc0_scratch6.sem) (by decide)
  have hF := own_cell d L (s := cc0_scoped0.sem) (by decide)
  have hAG : cellA d L ≠ cellG d L := by simp [cellA, cellG]; decide
  have hBG : cellB d L ≠ cellG d L := by simp [cellB, cellG]; decide
  have hBA : cellB d L ≠ cellA d L := by simp [cellB, cellA]; decide
  have hFG : cellF d L ≠ cellG d L := by simp [cellF, cellG]; decide
  have hFA : cellF d L ≠ cellA d L := by simp [cellF, cellA]; decide
  have hFB : cellF d L ≠ cellB d L := by simp [cellF, cellB]; decide
  unfold SparseCore.Cfg.ownSems0
  rw [SparseCore.bigSep_erase' hG, SparseCore.bigSep_erase' (Finset.mem_erase.mpr ⟨hAG, hA⟩),
    SparseCore.bigSep_erase' (Finset.mem_erase.mpr ⟨hBA, Finset.mem_erase.mpr ⟨hBG, hB⟩⟩),
    SparseCore.bigSep_erase' (Finset.mem_erase.mpr ⟨hFB, Finset.mem_erase.mpr ⟨hFA, Finset.mem_erase.mpr ⟨hFG, hF⟩⟩⟩)]

abbrev bufOf (b : Ref sig .scVector) : DevRef τ sig := (Proc.scVector (cV L) (jV L)).devRef b

theorem bufOf_ne {b b' : Ref sig .scVector} (h : b ≠ b') : bufOf L b ≠ bufOf L b' :=
  fun e => h (Proc.devRef_injective _ e)

theorem own_buf {b : Ref sig .scVector} (h : (bufOf L b).owner = .proc (.scVector (cV L) (jV L))) :
    bufOf L b ∈ ownRefs (τ := τ) (.scVector (cV L) (jV L)) :=
  SparseCore.Cfg.mem_ownRefs_of_owner (p := Proc.scVector (cV L) (jV L)) (b := bufOf L b) h

/-- The buffers of the tile's own that the task does not use. -/
abbrev otherBufs : Finset (DevRef τ sig) :=
  ((((ownRefs (τ := τ) (.scVector (cV L) (jV L))).erase (bufOf L cc0_scratch0)).erase (bufOf L cc0_scratch1)).erase
    (bufOf L cc0_scratch2)).erase (bufOf L cc0_scratch3)

theorem ownBufs_eq :
    (ownBufs (th d L) : sProp 𝕄)
      = iprop((∃ f, (th d L).loc cc0_scratch0 ↦{fullShare} f) ∗ (∃ f, (th d L).loc cc0_scratch1 ↦{fullShare} f)
          ∗ (∃ f, (th d L).loc cc0_scratch2 ↦{fullShare} f) ∗ (∃ f, (th d L).loc cc0_scratch3 ↦{fullShare} f)
          ∗ bigSep (otherBufs L) fun b => iprop(∃ f, ((d, b) : Loc nD τ sig) ↦{fullShare} f)) := by
  have h0 := own_buf L (b := cc0_scratch0) rfl
  have h1 := own_buf L (b := cc0_scratch1) rfl
  have h2 := own_buf L (b := cc0_scratch2) rfl
  have h3 := own_buf L (b := cc0_scratch3) rfl
  have h10 := bufOf_ne L (b := cc0_scratch1) (b' := cc0_scratch0) (by decide)
  have h20 := bufOf_ne L (b := cc0_scratch2) (b' := cc0_scratch0) (by decide)
  have h21 := bufOf_ne L (b := cc0_scratch2) (b' := cc0_scratch1) (by decide)
  have h30 := bufOf_ne L (b := cc0_scratch3) (b' := cc0_scratch0) (by decide)
  have h31 := bufOf_ne L (b := cc0_scratch3) (b' := cc0_scratch1) (by decide)
  have h32 := bufOf_ne L (b := cc0_scratch3) (b' := cc0_scratch2) (by decide)
  unfold SparseCore.Cfg.ownBufs
  refine (SparseCore.bigSep_erase' h0).trans ?_
  rw [SparseCore.bigSep_erase' (Finset.mem_erase.mpr ⟨h10, h1⟩),
    SparseCore.bigSep_erase' (Finset.mem_erase.mpr ⟨h21, Finset.mem_erase.mpr ⟨h20, h2⟩⟩),
    SparseCore.bigSep_erase' (Finset.mem_erase.mpr ⟨h32, Finset.mem_erase.mpr ⟨h31, Finset.mem_erase.mpr ⟨h30, h3⟩⟩⟩)]

end Own

/-! ## The task between the launch's buffers -/

section Body

variable (d : Dev nD) (L : grid0.Coords)
variable (tbl fo : S3538944x16.Idx → Elt F .f32) (prm : S2304.Idx → Elt F .i32) (q q' : PosShare TreeShare)
variable (O : CellTallies nD τ sig (HIx 1)) (W : Waits sig (HIx 1))

theorem tile_body (hF : (K (F := F)).Facts) (hP : PermOK prm) (hO : ∀ g, O g none = 0) :
    iprop(levAts (K (F := F)).L (K (F := F)).lev ∗ emp ∗ Given d L tbl fo prm q q'
        ∗ scopedBufs (th d L) ∗ scopedSems0 (th d L) ∗ owes (th d L) O W)
      ⊢ wp frame (wpE (defs₀ (F := F)) 𝒱₀ (th d L) none) Set.univ
          (cc0_shuffle L tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0)
          fun _ => iprop(Given d L tbl (outV tbl prm) prm q q'
            ∗ scopedBufs (th d L) ∗ scopedSems0 (th d L) ∗ ∃ W', ⌜∀ p ∈ W', p ∈ W ∨ p.2 = none⌝ ∗ owes (th d L) O W') := by
  simp only [cc0_shuffle_eq_skeleton]
  rw [(K (F := F)).scopedBufs_V hF d (cV L) (jV L), SparseCore.Cfg.scopedSems0_V (Val := Elt F) d (cV L) (jV L),
    ownSems_eq, ownBufs_eq]
  iintro ⟨#Hlv, -, HG, ⟨Hq, Hl, Ha, Hb, Hbufs⟩, ⟨Hg, Hw0, Hw1, Hs, Hsems⟩, HO⟩
  iapply (wp_wand frame (wpE (defs₀ (F := F)) 𝒱₀ (th d L) none)) $$ [HG Hq Hl Ha Hb Hg Hw0 Hw1 Hs HO]
  · iapply (task d L tbl fo prm q q' O W hP hO)
    isplitl [HG]; · iexact HG
    isplitl [Hq Hl Ha Hb Hg Hw0 Hw1 Hs]
    · unfold Own
      isplitl [Hq]; · iexact Hq
      isplitl [Hl]; · iexact Hl
      isplitl [Ha]; · iexact Ha
      isplitl [Hb]; · iexact Hb
      isplitl [Hg]; · iexact Hg
      isplitl [Hw0]; · iexact Hw0
      isplitl [Hw1] <;> iassumption
    unfold Owed
    isplitr; · iexact Hlv
    iexists W; isplitr
    · ipureintro; exact fun p hp => .inl hp
    iexact HO
  iintro %_ ⟨HG, Hown, HO⟩
  unfold Own Owed
  icases Hown with ⟨Hq, Hl, Ha, Hb, Hg, Hw0, Hw1, Hs⟩
  icases HO with ⟨-, HO⟩
  isplitl [HG]; · iexact HG
  isplitl [Hq Hl Ha Hb Hbufs]
  · isplitl [Hq]; · iexact Hq
    isplitl [Hl]; · iexact Hl
    isplitl [Ha]; · iexact Ha
    isplitl [Hb]; · iexact Hb
    iexact Hbufs
  isplitl [Hg Hw0 Hw1 Hs Hsems]
  · isplitl [Hg]; · iexact Hg
    isplitl [Hw0]; · iexact Hw0
    isplitl [Hw1]; · iexact Hw1
    isplitl [Hs] <;> iassumption
  iexact HO

end Body

end Cert.Proof.KI

end
-- ==== Proof.KI.Deal.lean ====
/-
  What the call is dealt: every tile a share of the table and of the permutations, and its own rows of the result. The
  launch theorem's obligations about a tile and about a SparseCore's hand-out follow.
-/
module

public import proofs.«01_k».proof.Proof.KI.Launch

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Shares for the thirty-two tiles, and their rows of the result -/

/-- The share of the table and of the permutations that tile `i` of SparseCore `c` reads. -/
abbrev shareOf (p : Fin 2 × Fin 16) : PosShare TreeShare := Ring.sharesN 32 fullShare (finProdFinEquiv p)

theorem shares_eq {ℓ : Loc nD τ sig} (f : Buf (Elt F) ℓ) :
    (ℓ ↦[Finset.univ]{fullShare} f : sProp 𝕄)
      = bigSep Finset.univ fun c : Fin 2 => bigSep Finset.univ fun i : Fin 16 => ℓ ↦[Finset.univ]{shareOf (c, i)} f := by
  have h := Ring.pointsTo_nths (ℓ := ℓ) (I := Finset.univ) (f := f) (Ix := HIx 1) (Name := ℕ) (U := UU) (Lvl := ℕ) 31 fullShare
  rw [BI.Entails.antisymm h.1 h.2,
    ← bigSep_univ_eq_bigSepL (List.finRange 32) (by simp) (List.nodup_finRange 32),
    bigSep_univ_equiv (finProdFinEquiv (m := 2) (n := 16))
      (fun s : Fin 32 => (ℓ ↦[Finset.univ]{Ring.sharesN 32 fullShare s} f : sProp 𝕄)),
    bigSep_univ_prod]

/-- The grid coordinates of tile `i` of SparseCore `c`. -/
def coords (c : Fin (grid0.bound 0)) (i : Fin (grid0.bound 1)) : grid0.Coords := fun
  | 0 => c
  | 1 => i
  | ⟨_ + 2, h⟩ => absurd h (Nat.not_lt.2 (Nat.le_add_left _ _))

abbrev tileRows (p : Fin 2 × Fin 16) : Finset S3538944x16.Idx :=
  rowsSet (chunkRow (coords p.1 p.2) 0) (chunkRow (coords p.1 p.2) 36)

theorem mem_tileRows {p : Fin 2 × Fin 16} {y : S3538944x16.Idx} :
    y ∈ tileRows p ↔ (y 0).val / 110592 = 2 * p.2.val + p.1.val := by
  have h : wid (coords p.1 p.2) = 2 * p.2.val + p.1.val := rfl
  rw [mem_rowsSet]
  unfold chunkRow
  rw [h]
  omega

theorem tileRows_disjoint : ∀ p ∈ (Finset.univ : Finset (Fin 2 × Fin 16)), ∀ p' ∈ (Finset.univ : Finset (Fin 2 × Fin 16)),
    p ≠ p' → Disjoint (tileRows p) (tileRows p') := by
  intro p _ p' _ hne
  rw [Finset.disjoint_left]
  intro y hy hy'
  rw [mem_tileRows] at hy hy'
  have h1 := p.1.isLt
  have h2 := p'.1.isLt
  exact hne (Prod.ext (Fin.ext (by omega)) (Fin.ext (by omega)))

theorem tileRows_cover : (Finset.univ : Finset (Fin 2 × Fin 16)).biUnion tileRows = Finset.univ := by
  ext y
  simp only [Finset.mem_biUnion, Finset.mem_univ, _root_.true_and, iff_true]
  have hy : (y 0).val < 3538944 := (y 0).isLt
  refine ⟨(⟨(y 0).val / 110592 % 2, by omega⟩, ⟨(y 0).val / 110592 / 2, by omega⟩), mem_tileRows.mpr ?_⟩
  show _ = 2 * ((y 0).val / 110592 / 2) + (y 0).val / 110592 % 2
  omega

theorem rows_eq (d : Dev nD) (f : S3538944x16.Idx → Elt F .f32) :
    (oLoc d ↦[Finset.univ]{fullShare} f : sProp 𝕄)
      = bigSep Finset.univ fun c : Fin 2 => bigSep Finset.univ fun i : Fin 16 =>
          outPts d f (chunkRow (coords c i) 0) (chunkRow (coords c i) 36) := by
  rw [← tileRows_cover, pointsTo_biUnion _ _ tileRows_disjoint,
    bigSep_univ_prod (fun p : Fin 2 × Fin 16 => (oLoc d ↦[tileRows p]{fullShare} f : sProp 𝕄))]

/-! ## What a tile is dealt -/

/-- What tile `i` of SparseCore `c` works between, the result's rows at `fo`. -/
abbrev Dealt (d : Dev nD) (tbl fo : S3538944x16.Idx → Elt F .f32) (prm : S2304.Idx → Elt F .i32) (c : Fin 2) (i : Fin 16) : sProp 𝕄 :=
  Given d (coords c i) tbl fo prm (shareOf (c, i)) (shareOf (c, i))

/-- The three arrays whole are what the thirty-two tiles are dealt. -/
theorem dealt_eq (d : Dev nD) (tbl fo : S3538944x16.Idx → Elt F .f32) (prm : S2304.Idx → Elt F .i32) :
    (iprop((tLoc d ↦[Finset.univ]{fullShare} tbl) ∗ (pLoc d ↦[Finset.univ]{fullShare} prm) ∗ oLoc d ↦[Finset.univ]{fullShare} fo) : sProp 𝕄)
      = bigSep Finset.univ fun c : Fin 2 => bigSep Finset.univ fun i : Fin 16 => Dealt d tbl fo prm c i := by
  rw [shares_eq (F := F) (ℓ := tLoc d) tbl, shares_eq (F := F) (ℓ := pLoc d) prm, rows_eq]
  unfold Dealt Given
  simp only [bigSep_sep']

/-! ## What the handshakes carry -/

variable (m : (ℓ : Loc nD τ sig) → Buf (Elt F) ℓ)

/-- The table and the permutations as the call finds them: the two arguments, reshaped. -/
def tblOf (d : Dev nD) : S3538944x16.Idx → Elt F .f32 := shapeCast S3538944x16 (m (aLoc d)) shapeCasts_S4x96x384x384_S3538944x16
def prmOf (d : Dev nD) : S2304.Idx → Elt F .i32 := shapeCast S2304 (m (bLoc d)) shapeCasts_S4x576_S2304

/-- The result's contents at the launch, and after the call. -/
abbrev outBefore (d : Dev nD) : S3538944x16.Idx → Elt F .f32 := m (oLoc d)
abbrev outAfter (d : Dev nD) : S3538944x16.Idx → Elt F .f32 := outV (tblOf m d) (prmOf m d)

/-- What the proof asks of the launch memory: the permutations' words are in range. -/
def PreOK : Prop := ∀ d : Dev nD, PermOK (prmOf m d)

/-- Each SparseCore is handed what its sixteen tiles are dealt, and hands it back with the result's rows written. -/
def P : (K (F := F)).Pay (nD := nD) (Val := Elt F) (Name := ℕ) (U := UU) where
  st := fun q d c => match q with
    | 0 => bigSep Finset.univ fun i : Fin 16 => Dealt d (tblOf m d) (outBefore m d) (prmOf m d) (Fin.cast nCore_zero c) i
  dn := fun q d c => match q with
    | 0 => bigSep Finset.univ fun i : Fin 16 => Dealt d (tblOf m d) (outAfter m d) (prmOf m d) (Fin.cast nCore_zero c) i
  go := fun q d c i => match q with
    | 0 => Dealt d (tblOf m d) (outBefore m d) (prmOf m d) (Fin.cast nCore_zero c) (Fin.cast nSub_zero i)
  td := fun q d c i => match q with
    | 0 => Dealt d (tblOf m d) (outAfter m d) (prmOf m d) (Fin.cast nCore_zero c) (Fin.cast nSub_zero i)
  x := fun _ _ => iprop(emp)

instance dealt_storable (d : Dev nD) (tbl fo : S3538944x16.Idx → Elt F .f32) (prm : S2304.Idx → Elt F .i32) (c : Fin 2) (i : Fin 16) :
    BI.Storable (upEmb : UEmb _ 𝕄) (Dealt d tbl fo prm c i) := by
  unfold Dealt Given; infer_instance

instance P_storable : (P (F := F) m).IsStorable where
  st q d c := match q with
    | 0 => (inferInstance : BI.Storable (upEmb : UEmb _ 𝕄)
      (bigSep Finset.univ fun i : Fin 16 => Dealt d (tblOf m d) (outBefore m d) (prmOf m d) (Fin.cast nCore_zero c) i))
  dn q d c := match q with
    | 0 => (inferInstance : BI.Storable (upEmb : UEmb _ 𝕄)
      (bigSep Finset.univ fun i : Fin 16 => Dealt d (tblOf m d) (outAfter m d) (prmOf m d) (Fin.cast nCore_zero c) i))
  go q d c i := match q with
    | 0 => dealt_storable d (tblOf m d) (outBefore m d) (prmOf m d) (Fin.cast nCore_zero c) (Fin.cast nSub_zero i)
  td q d c i := match q with
    | 0 => dealt_storable d (tblOf m d) (outAfter m d) (prmOf m d) (Fin.cast nCore_zero c) (Fin.cast nSub_zero i)

theorem sixteen (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => Dealt d (tblOf m d) (outBefore m d) (prmOf m d) (Fin.cast nCore_zero c) i)
    ⊢ |={Set.univ}=> iprop(
      (bigSep Finset.univ fun i : Fin ((K (F := F)).nSub 0) =>
        Dealt d (tblOf m d) (outBefore m d) (prmOf m d) (Fin.cast nCore_zero c) (Fin.cast nSub_zero i))
      ∗ ((bigSep Finset.univ fun i : Fin ((K (F := F)).nSub 0) =>
          Dealt d (tblOf m d) (outAfter m d) (prmOf m d) (Fin.cast nCore_zero c) (Fin.cast nSub_zero i))
        -∗ bigSep Finset.univ fun i : Fin 16 => Dealt d (tblOf m d) (outAfter m d) (prmOf m d) (Fin.cast nCore_zero c) i))
  rw [sixteen (F := F) (fun i => Dealt d (tblOf m d) (outBefore m d) (prmOf m d) (Fin.cast nCore_zero c) i),
    sixteen (F := F) (fun i => Dealt d (tblOf m d) (outAfter m d) (prmOf m d) (Fin.cast nCore_zero c) i)]
  iintro H; imodintro
  isplitl [H]; · iexact H
  iintro H; iexact H

/-! ## The launch theorem's obligation about a tile -/

theorem defs₀_vector (c : Fin τ.nSC) (s : Fin τ.nSub) :
    defs₀ (F := F) (.scVector c s) 0 ()
      = SparseCore.onTile hcore0 hsub0 (fun c s => cc0_shuffle (coords c s) tW (Memref.isWhole_whole _) pW (Memref.isWhole_whole _) oW (Memref.isWhole_whole _) qW (Memref.isWhole_whole _) lW (Memref.isWhole_whole _) aW (Memref.isWhole_whole _) bW (Memref.isWhole_whole _) cc0_scratch4 cc0_scratch5 cc0_scratch6 cc0_scoped0) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coords ⟨((K (F := F)).core 0 c).val, hci.1⟩ ⟨((K (F := F)).sub 0 i).val, hci.2⟩) (tblOf m d) (outBefore m d) (prmOf m d)
    (shareOf (Fin.cast nCore_zero c, Fin.cast nSub_zero i)) (shareOf (Fin.cast nCore_zero c, Fin.cast nSub_zero i)) O W hF (hpre d) hO).trans
    (wp_mono frame _ _ fun _ => post_weaken)

end Cert.Proof.KI

end
-- ==== Proof.KI.Main.lean ====
/-
  `@main` on the TensorCore: the two reshapes, the call, the last reshape; and the whole program's run, which ends with
  the two arguments as they were, the result the call's array reshaped, and every semaphore at zero.
-/
module

public import proofs.«01_k».proof.Proof.KI.Deal

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's arrays -/

abbrev a' : DevRef τ sig := Proc.devRef .tc (main_arg0 : Ref sig .tc)
abbrev b' : DevRef τ sig := Proc.devRef .tc (main_arg1 : Ref sig .tc)
abbrev t' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opT : HloOp τ sig (Elt F) := StableHlo.reshape main_arg0 main_v0 (rfl : (.f32 : EltTy) = .f32) shapeCasts_S4x96x384x384_S3538944x16
abbrev opP : HloOp τ sig (Elt F) := StableHlo.reshape main_arg1 main_v1 (rfl : (.i32 : EltTy) = .i32) shapeCasts_S4x576_S2304
abbrev opR : HloOp τ sig (Elt F) := StableHlo.reshape main_v2 main_v3 (rfl : (.f32 : EltTy) = .f32) shapeCasts_S3538944x16_S4x96x384x384

abbrev S6 : Finset (DevRef τ sig) := {a', b', t', p', o', r'}

theorem held_S6 (d : Dev nD) (W : Valuation τ sig (Elt F)) :
    (held (T d) S6 W : sProp 𝕄)
      = iprop((aLoc d ↦{fullShare} W a') ∗ (bLoc d ↦{fullShare} W b') ∗ (tLoc d ↦{fullShare} W t') ∗ (pLoc d ↦{fullShare} W p')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (tLoc d ↦{fullShare} W main_v0)
          ∗ (pLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at the launch, before the call, after it, and at the end. -/
def V0 (d : Dev nD) : Valuation τ sig (Elt F) := fun b => m (d, b)
def V1 (d : Dev nD) : Valuation τ sig (Elt F) := (opP (F := F)).result ((opT (F := F)).result (V0 m d))
def V2 (d : Dev nD) : Valuation τ sig (Elt F) := Function.update (V1 m d) o' (outAfter m d)
def V3 (d : Dev nD) : Valuation τ sig (Elt F) := (opR (F := F)).result (V2 m d)

theorem unscoped_held (d : Dev nD) : (unscopedBufs d (fun b => m ((SparseCore.T d).loc b)) : sProp 𝕄) = held (T d) S6 (V0 m d) := by
  rw [unscopedBufs_eq, held_S6]; rfl

theorem V1_of_ne (d : Dev nD) {b : DevRef τ sig} (hp : b ≠ p') (ht : b ≠ t') : V1 m d b = V0 m d b := by
  unfold V1
  rw [(opP (F := F)).result_of_not_mem _ (show b ∉ ({p'} : Finset (DevRef τ sig)) by rwa [Finset.mem_singleton]),
    (opT (F := F)).result_of_not_mem _ (show b ∉ ({t'} : Finset (DevRef τ sig)) by rwa [Finset.mem_singleton])]

theorem V1_t (d : Dev nD) : V1 m d t' = tblOf m d := by
  unfold V1
  rw [(opP (F := F)).result_of_not_mem _ (show t' ∉ ({p'} : Finset (DevRef τ sig)) by decide)]
  exact StableHlo.reshape_result main_arg0 main_v0 _ _ _ _ _

theorem V1_p (d : Dev nD) : V1 m d p' = prmOf m d := by
  have h : (opT (F := F)).result (V0 m d) b' = V0 m d b' :=
    (opT (F := F)).result_of_not_mem _ (show b' ∉ ({t'} : Finset (DevRef τ sig)) by decide)
  unfold V1
  refine (StableHlo.reshape_result main_arg1 main_v1 _ _ _ _ _).trans ?_
  rw [h]; rfl

theorem V2_of_ne (d : Dev nD) {b : DevRef τ sig} (ho : b ≠ o') : V2 m d b = V1 m d b := Function.update_of_ne ho _ _
theorem V2_o (d : Dev nD) : V2 m d o' = outAfter m d := Function.update_self _ _ _

theorem V3_of_ne (d : Dev nD) {b : DevRef τ sig} (hr : b ≠ r') : V3 m d b = V2 m d b :=
  (opR (F := F)).result_of_not_mem _ (show b ∉ ({r'} : Finset (DevRef τ sig)) by rwa [Finset.mem_singleton])

/-- The program's result: the call's array, reshaped. -/
def resOf (d : Dev nD) : S4x96x384x384.Idx → Elt F .f32 :=
  shapeCast S4x96x384x384 (outAfter m d) shapeCasts_S3538944x16_S4x96x384x384

theorem V3_r (d : Dev nD) : V3 m d r' = resOf m d := by
  unfold V3
  refine (StableHlo.reshape_result main_v2 main_v3 _ _ _ _ _).trans ?_
  rw [V2_o]; rfl

theorem V3_a (d : Dev nD) : V3 m d a' = m (aLoc d) := by
  rw [V3_of_ne m d (by decide), V2_of_ne m d (by decide), V1_of_ne m d (by decide) (by decide)]; rfl
theorem V3_b (d : Dev nD) : V3 m d b' = m (bLoc d) := by
  rw [V3_of_ne m d (by decide), V2_of_ne m d (by decide), V1_of_ne m d (by decide) (by decide)]; rfl
theorem V1_o (d : Dev nD) : V1 m d o' = outBefore m d := by
  rw [V1_of_ne m d (by decide) (by decide)]; rfl

theorem hT : (opT (F := F)).bufs ⊆ S6 := show ({a', t'} : Finset (DevRef τ sig)) ⊆ S6 by decide
theorem hP' : (opP (F := F)).bufs ⊆ S6 := show ({b', p'} : Finset (DevRef τ sig)) ⊆ S6 by decide
theorem hR : (opR (F := F)).bufs ⊆ S6 := show ({o', r'} : Finset (DevRef τ sig)) ⊆ S6 by decide

/-- What the call takes for the two SparseCores, and what it hands back. -/
theorem two (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) : (bigSep Finset.univ fun c : Fin ((K (F := F)).nCore 0) => (P m).st 0 d c)
    = iprop((tLoc d ↦{fullShare} V1 m d t') ∗ (pLoc d ↦{fullShare} V1 m d p') ∗ oLoc d ↦{fullShare} V1 m d o') := by
  rw [V1_t, V1_p, V1_o]
  exact (two (F := F) fun c => bigSep Finset.univ fun i : Fin 16 => Dealt d (tblOf m d) (outBefore m d) (prmOf m d) c i).trans
    (dealt_eq d (tblOf m d) (outBefore m d) (prmOf m d)).symm

theorem dn_eq (d : Dev nD) : (bigSep Finset.univ fun c : Fin ((K (F := F)).nCore 0) => (P m).dn 0 d c)
    = iprop((tLoc d ↦{fullShare} V2 m d t') ∗ (pLoc d ↦{fullShare} V2 m d p') ∗ oLoc d ↦{fullShare} V2 m d o') := by
  rw [V2_o, V2_of_ne m d (b := t') (by decide), V2_of_ne m d (b := p') (by decide), V1_t, V1_p]
  exact (two (F := F) fun c => bigSep Finset.univ fun i : Fin 16 => Dealt d (tblOf m d) (outAfter m d) (prmOf m d) c i).trans
    (dealt_eq d (tblOf m d) (outAfter m d) (prmOf m d)).symm

/-- What @main leaves the claim: the arguments at their launch contents, the result. -/
abbrev FIN (d : Dev nD) : sProp 𝕄 :=
  iprop((aLoc d ↦{fullShare} m (aLoc d)) ∗ (bLoc d ↦{fullShare} m (bLoc d)) ∗ rLoc d ↦{fullShare} resOf m d)

theorem fin_of_held (d : Dev nD) : (held (T d) S6 (V3 m d) : sProp 𝕄) ⊢ FIN m d := by
  rw [held_S6, V3_a, V3_b, V3_r]
  iintro ⟨Ha, Hb, -, -, -, Hr⟩
  isplitl [Ha]; · iexact Ha
  isplitl [Hb] <;> iassumption

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  iapply (wp_hlo_within 𝒱 (SparseCore.T d) none Set.univ (op := opP) (S := S6) hP' (V := (opT (F := F)).result (V0 m d))) $$ [Hb Hheld]
  · isplitl [Hb] <;> iassumption
  iintro ⟨Hb, Hheld⟩
  rw [wp_ret]; imodintro
  ihave Hh := (Entails.of_eq (show (held (T d) S6 ((opP (F := F)).result ((opT (F := F)).result (V0 m d))) : sProp 𝕄) = _ from held_S6 (F := F) d (V1 m d))) $$ Hheld
  icases Hh with ⟨Hx, Hy, Ht, Hp, Ho, Hr⟩
  iapply ((K (F := F)).wp_run (D (F := F)) 𝒱 (EH := EH) (P := P m) κ d 0) $$ [Hst Hx Hy Ht Hp Ho Hr Hb Hts]
  isplitr; · iexact Hctx
  isplitl [Hst]; · iexact Hst
  isplitl [Ht Hp Ho]
  · rw [st_eq]
    isplitl [Ht]; · iexact Ht
    isplitl [Hp] <;> iassumption
  iintro ⟨Hst, Hdn⟩
  ihave Hdn' := (Entails.of_eq (dn_eq m d)) $$ Hdn
  icases Hdn' with ⟨Ht, Hp, Ho⟩
  iapply (wp_hlo_within 𝒱 (SparseCore.T d) none Set.univ (op := opR) (S := S6) hR (V := V2 m d)) $$ [Hb Hx Hy Ht Hp Ho Hr]
  · isplitl [Hb]; · iexact Hb
    rw [held_S6, V2_of_ne m d (b := a') (by decide), V2_of_ne m d (b := b') (by decide), V2_of_ne m d (b := r') (by decide)]
    isplitl [Hx]; · iexact Hx
    isplitl [Hy]; · iexact Hy
    isplitl [Ht]; · iexact Ht
    isplitl [Hp]; · iexact Hp
    isplitl [Ho] <;> iassumption
  iintro ⟨Hb, Hheld⟩
  ihave HF := (show (held (T d) S6 ((opR (F := F)).result (V2 m d)) : sProp 𝕄) ⊢ FIN m d from fin_of_held m d) $$ Hheld
  rw [wp_ret]; imodintro; imodintro
  isplitl [Hst]; · iexact Hst
  isplitl [HF]; · iexact HF
  isplitl [Hb] <;> iassumption

/-! ## The run -/

def fq (d : Dev nD) (s' : Phys nD τ sig (Elt F)) : Prop :=
  s'.mem.mem (aLoc d) = m (aLoc d) ∧ s'.mem.mem (bLoc d) = m (bLoc d) ∧ s'.mem.mem (rLoc d) = resOf m d

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (aLoc c) = m (aLoc c) ∧ r.2.mem (bLoc c) = m (bLoc c) ∧ r.2.mem (rLoc c) = resOf m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI

end
-- ==== Proof.KI.Frame.lean ====
/-
  The program's run under the precondition, as the claims state it.
-/
module

public import proofs.«01_k».proof.Proof.KI.Main
public import proofs.«01_k».proof.Proof.InRange

@[expose] public section

noncomputable section

namespace Cert.Proof.KI

open Cert.KernelIdeal Cert.KernelIdeal.Gen Cert.Proof.Shuffle Cert.Proof.Chunk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

theorem ok_of_pre (m : (ℓ : Loc nD τ sig) → Buf (Elt Ideal) ℓ) (h : Cert.Pre_KernelIdeal m) : PreOK (F := Ideal) m :=
  fun d x => by
    show (m (bLoc d) _).toNat < 576
    exact InRange.of_fn _ _ (h d) _

theorem run_pre (m : (ℓ : Loc nD τ sig) → Buf (Elt Ideal) ℓ) (ρ : Dev nD → PrngReg) (h : Cert.Pre_KernelIdeal m) :
    θ_run (Cert.KernelIdeal.defs (F := Ideal)) (Cert.KernelIdeal.threads (F := Ideal)) ⟨m, fun _ => 0, ρ⟩ (QC m) :=
  run_main (F := Ideal) m ρ (ok_of_pre m h)

/-- The program ends, faults nowhere, leaves its arguments as they were and every semaphore at zero. -/
theorem quiescent : Cert.quiescent_KernelIdeal := fun m ρ h =>
  (θ_run Cert.KernelIdeal.defs _ _).mono (fun _ hr => ⟨fun c => ⟨(hr.1 c).1, (hr.1 c).2.1⟩, hr.2⟩) (run_pre m ρ h)

end Cert.Proof.KI

end
-- ==== Proof.Ref.lean ====
/-
  The reference's frame: it ends with its arguments as they were, and it has no semaphore.
-/
module

public import proofs.«01_k».proof.Defs
public import proofs.«01_k».proof.Proof.Gen.ReferenceIdeal.Run
public import Idealize.ShloMosaic.Lib.Quiescent

@[expose] public section

noncomputable section

namespace Cert.Proof.Ref

open Cert.ReferenceIdeal Cert.ReferenceIdeal.Gen Idealize.ShloMosaic Idealize.SL.Sem

theorem kept (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

theorem quiescent : Cert.quiescent_ReferenceIdeal := fun m ρ _ => kept m ρ

end Cert.Proof.Ref

end
-- ==== Proof.Val.Layout.lean ====
/-
  The layout steps of the reference, each read at one position: cutting the image into its 24 × 24 patches, numbering
  the patches, taking one patch per position, and putting the patches back into an image.
-/
module

public import proofs.«01_k».proof.ReferenceIdeal
public import Idealize.ShloMosaic.Lib.ValueIdxRank6

@[expose] public section

noncomputable section

namespace Cert.Proof.Val

open Cert.ReferenceIdeal Idealize.ShloMosaic Idealize.ShloMosaic.ValueIdx

variable {α : Type}

/-- A reshaped array at `j` is the array at the index with the same row-major position. -/
theorem shapeCast_at {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor _ e)

theorem image_at (x : S4x96x24x16x24x16.Idx → α) (h : S4x96x24x16x24x16.ShapeCasts S4x96x384x384)
    (b : Fin 4) (c : Fin 96) (y z : Fin 384) :
    shapeCast S4x96x384x384 x h (ix4 b c y z)
      = x (ix6 b c ⟨y.val / 16, by omega⟩ ⟨y.val % 16, by omega⟩ ⟨z.val / 16, by omega⟩ ⟨z.val % 16, by omega⟩) :=
  shapeCast_at x h _ _ (by
    rw [Shape.rowMajor_val_six, Shape.rowMajor_val_four]
    show ((((b.val * 96 + c.val) * 24 + y.val / 16) * 16 + y.val % 16) * 24 + z.val / 16) * 16 + z.val % 16
      = ((b.val * 96 + c.val) * 384 + y.val) * 384 + z.val
    omega)

theorem back_at (x : S4x24x24x96x16x16.Idx → α) (h : S4x24x24x96x16x16.Transposes [0, 3, 1, 4, 2, 5] S4x96x24x16x24x16)
    (b : Fin 4) (c : Fin 96) (v : Fin 24) (y : Fin 16) (u : Fin 24) (z : Fin 16) :
    transpose S4x96x24x16x24x16 [0, 3, 1, 4, 2, 5] x h (ix6 b c v y u z) = x (ix6 b v u c y z) := by
  refine congrArg x (funext fun a => ?_)
  match a with
  | ⟨0, _⟩ => rfl | ⟨1, _⟩ => rfl | ⟨2, _⟩ => rfl | ⟨3, _⟩ => rfl | ⟨4, _⟩ => rfl | ⟨5, _⟩ => rfl

theorem grid_at (x : S4x576x96x16x16.Idx → α) (h : S4x576x96x16x16.ShapeCasts S4x24x24x96x16x16)
    (b : Fin 4) (v u : Fin 24) (c : Fin 96) (y z : Fin 16) :
    shapeCast S4x24x24x96x16x16 x h (ix6 b v u c y z) = x (ix5 b ⟨v.val * 24 + u.val, by omega⟩ c y z) :=
  shapeCast_at x h _ _ (by
    rw [Shape.rowMajor_val_six, Shape.rowMajor_val_five]
    show (((b.val * 576 + (v.val * 24 + u.val)) * 96 + c.val) * 16 + y.val) * 16 + z.val
      = ((((b.val * 24 + v.val) * 24 + u.val) * 96 + c.val) * 16 + y.val) * 16 + z.val
    omega)

theorem numbered_at (x : S4x24x24x96x16x16.Idx → α) (h : S4x24x24x96x16x16.ShapeCasts S4x576x96x16x16)
    (b : Fin 4) (n : Fin 576) (c : Fin 96) (y z : Fin 16) :
    shapeCast S4x576x96x16x16 x h (ix5 b n c y z) = x (ix6 b ⟨n.val / 24, by omega⟩ ⟨n.val % 24, by omega⟩ c y z) :=
  shapeCast_at x h _ _ (by
    rw [Shape.rowMajor_val_six, Shape.rowMajor_val_five]
    show ((((b.val * 24 + n.val / 24) * 24 + n.val % 24) * 96 + c.val) * 16 + y.val) * 16 + z.val
      = (((b.val * 576 + n.val) * 96 + c.val) * 16 + y.val) * 16 + z.val
    omega)

theorem apart_at (x : S4x96x24x16x24x16.Idx → α) (h : S4x96x24x16x24x16.Transposes [0, 2, 4, 1, 3, 5] S4x24x24x96x16x16)
    (b : Fin 4) (v u : Fin 24) (c : Fin 96) (y z : Fin 16) :
    transpose S4x24x24x96x16x16 [0, 2, 4, 1, 3, 5] x h (ix6 b v u c y z) = x (ix6 b c v y u z) := by
  refine congrArg x (funext fun a => ?_)
  match a with
  | ⟨0, _⟩ => rfl | ⟨1, _⟩ => rfl | ⟨2, _⟩ => rfl | ⟨3, _⟩ => rfl | ⟨4, _⟩ => rfl | ⟨5, _⟩ => rfl

theorem cut_at (x : S4x96x384x384.Idx → α) (h : S4x96x384x384.ShapeCasts S4x96x24x16x24x16)
    (b : Fin 4) (c : Fin 96) (v : Fin 24) (y : Fin 16) (u : Fin 24) (z : Fin 16) :
    shapeCast S4x96x24x16x24x16 x h (ix6 b c v y u z)
      = x (ix4 b c ⟨v.val * 16 + y.val, by omega⟩ ⟨u.val * 16 + z.val, by omega⟩) :=
  shapeCast_at x h _ _ (by
    rw [Shape.rowMajor_val_six, Shape.rowMajor_val_four]
    show ((b.val * 96 + c.val) * 384 + (v.val * 16 + y.val)) * 384 + (u.val * 16 + z.val)
      = ((((b.val * 96 + c.val) * 24 + v.val) * 16 + y.val) * 24 + u.val) * 16 + z.val
    omega)

theorem words_at (x : S4x576x1x1x1.Idx → α) (h : S4x576x1x1x1.ShapeCasts S4x576x1) (b : Fin 4) (n : Fin 576) :
    shapeCast S4x576x1 x h (ix3 b n 0) = x (ix5 b n 0 0 0) :=
  shapeCast_at x h _ _ (by
    rw [Shape.rowMajor_val_three, Shape.rowMajor_val_five]
    show (((b.val * 576 + n.val) * 1 + 0) * 1 + 0) * 1 + 0 = (b.val * 576 + n.val) * 1 + 0
    omega)

variable [Facts₀]
open Facts₀

/-- The gather: the patch whose number is the start index, when that number is one of the 576. -/
theorem taken_at (x : S4x576x96x16x16.Idx → α) (idx : IVec S4x576x1 32) (b : Fin 4) (n : Fin 576) (c : Fin 96) (y z : Fin 16)
    (s : Fin 576) (hs : idx (ix3 b n 0) = BitVec.ofNat 32 s.val) :
    Host.gather gather_S4x576x96x16x16_S4x576x1_S4x576x96x16x16_234_1_0_0_1_2_11961616 x idx (ix5 b n c y z)
      = x (ix5 b s c y z) := by
  set D := gather_S4x576x96x16x16_S4x576x1_S4x576x96x16x16_234_1_0_0_1_2_11961616 with hD
  refine congrArg x (funext fun a => Fin.ext ?_)
  show D.start (ix5 b n c y z) idx a + D.batchCoord (ix5 b n c y z) a + D.offCoord (ix5 b n c y z) a = _
  match a with
  | ⟨0, _⟩ => exact (Nat.add_zero _).trans (Nat.zero_add _)
  | ⟨1, h1⟩ =>
    have hi : D.siIdx (ix5 b n c y z) ⟨0, Nat.one_pos⟩ = ix3 b n 0 := by
      funext e; refine Fin.ext ?_
      match e with | ⟨0, _⟩ => rfl | ⟨1, _⟩ => rfl | ⟨2, _⟩ => rfl
    have hst : D.start (ix5 b n c y z) idx ⟨1, h1⟩ = min (idx (D.siIdx (ix5 b n c y z) ⟨0, Nat.one_pos⟩)).toInt.toNat (576 - 1) := rfl
    have hb : D.batchCoord (ix5 b n c y z) ⟨1, h1⟩ = 0 := rfl
    have ho : D.offCoord (ix5 b n c y z) ⟨1, h1⟩ = 0 := rfl
    rw [hst, hb, ho, hi, hs]
    show min (BitVec.ofNat 32 s.val).toInt.toNat 575 + 0 + 0 = s.val
    rw [BitVec.toInt_eq_toNat_cond, BitVec.toNat_ofNat, Nat.mod_eq_of_lt (by omega), if_pos (by omega)]
    omega
  | ⟨2, _⟩ => exact Nat.zero_add _
  | ⟨3, _⟩ => exact Nat.zero_add _
  | ⟨4, _⟩ => exact Nat.zero_add _

end Cert.Proof.Val

end
-- ==== Proof.Val.Words.lean ====
/-
  The reference's index arithmetic: it first wraps a negative word by adding 576, then checks that the word lies in
  0 … 575 and later keeps the gathered patch where it does. For words in range the wrap changes nothing and every
  check succeeds.
-/
module

public import proofs.«01_k».proof.Proof.Val.Layout
public import Idealize.ShloMosaic.Lib.ReduceAll

@[expose] public section

noncomputable section

namespace Cert.Proof.Val

open Cert.ReferenceIdeal Idealize.ShloMosaic Idealize.ShloMosaic.ValueIdx

theorem bit_true {p : Bool} (h : p = true) : BitVec.ofBool p = 1#1 := by subst h; rfl

/-- A word below 576 is not negative, so it is not wrapped. -/
theorem not_wrapped {v u : BitVec 32} (h : v.toNat < 576) : Scalar.select (IntOp.cmpi .slt v 0#32) u v = v := by
  have : IntOp.cmpi .slt v 0#32 = 0#1 := by
    have e : v.slt 0#32 = false := by
      simp only [BitVec.slt_eq_decide, BitVec.toInt_eq_toNat_cond, BitVec.toNat_ofNat, decide_eq_false_iff_not]
      omega
    show BitVec.ofBool (v.slt 0#32) = 0#1
    rw [e]; rfl
  rw [this]; rfl

/-- A word below 576 passes both checks. -/
theorem checked {v : BitVec 32} (h : v.toNat < 576) :
    IntOp.andi (IntOp.cmpi .sge v 0#32) (IntOp.cmpi .sle v 575#32) = 1#1 :=
  IntOp.andi_eq_one.2
    ⟨bit_true (by
        simp only [BitVec.sle_eq_decide, BitVec.toInt_eq_toNat_cond, BitVec.toNat_ofNat, decide_eq_true_eq]
        omega),
      bit_true (by
        simp only [BitVec.sle_eq_decide, BitVec.toInt_eq_toNat_cond, BitVec.toNat_ofNat, decide_eq_true_eq]
        omega)⟩

variable [Facts₀]
open Facts₀

/-- The start indices as the reference computes them from the permutations. -/
abbrev starts (p : IVec S4x576 32) : IVec S4x576x1 32 :=
  shapeCast S4x576x1 (select (cmpi .slt (broadcastInDim S4x576x1x1x1 ![0, 1] bcast_S4x576_S4x576x1x1x1_0_1 p)
      (broadcastInDim S4x576x1x1x1 ![] bcast_S_S4x576x1x1x1 (constantI S_ 32 0#32)))
    (addi (broadcastInDim S4x576x1x1x1 ![0, 1] bcast_S4x576_S4x576x1x1x1_0_1 p)
      (broadcastInDim S4x576x1x1x1 ![] bcast_S_S4x576x1x1x1 (constantI S_ 32 576#32)))
    (broadcastInDim S4x576x1x1x1 ![0, 1] bcast_S4x576_S4x576x1x1x1_0_1 p)) shapeCasts_S4x576x1x1x1_S4x576x1

/-- Whether each start index lies in 0 … 575. -/
abbrev inside (p : IVec S4x576 32) : IVec S4x576 1 :=
  Host.reduce IntOp.andi (andi (cmpi .sge (starts p) (broadcastInDim S4x576x1 ![] bcast_S_S4x576x1 (constantI S_ 32 0#32)))
      (cmpi .sle (starts p) (broadcastInDim S4x576x1 ![0, 1, 2] bcast_S1x1x1_S4x576x1_0_1_2
        (broadcastInDim S1x1x1 ![2] bcast_S1_S1x1x1_2 (constantI S1 32 575#32)))))
    (constantI S_ 1 1#1) reducesTo_S4x576x1_S4x576_d2 h_S_

variable {p : IVec S4x576 32} (hp : ∀ x, (p x).toNat < 576)
include hp

/-- Each start index is the permutation's word. -/
theorem starts_at (b : Fin 4) (n : Fin 576) : starts p (ix3 b n 0) = p (ix2 b n) := by
  refine (words_at _ _ b n).trans ?_
  have e : broadcastInDim S4x576x1x1x1 ![0, 1] bcast_S4x576_S4x576x1x1x1_0_1 p (ix5 b n 0 0 0) = p (ix2 b n) := by
    refine congrArg p (funext fun a => ?_)
    match a with | ⟨0, _⟩ => rfl | ⟨1, _⟩ => rfl
  refine Eq.trans ?_ (not_wrapped (u := IntOp.addi (p (ix2 b n)) 576#32) (hp (ix2 b n)))
  show Scalar.select (IntOp.cmpi .slt (broadcastInDim S4x576x1x1x1 ![0, 1] bcast_S4x576_S4x576x1x1x1_0_1 p (ix5 b n 0 0 0)) 0#32)
    (IntOp.addi (broadcastInDim S4x576x1x1x1 ![0, 1] bcast_S4x576_S4x576x1x1x1_0_1 p (ix5 b n 0 0 0)) 576#32)
    (broadcastInDim S4x576x1x1x1 ![0, 1] bcast_S4x576_S4x576x1x1x1_0_1 p (ix5 b n 0 0 0)) = _
  rw [e]

/-- Every start index passes the check. -/
theorem inside_at (x : S4x576.Idx) : inside p x = 1#1 :=
  Host.reduce_andi_one _ _ _ _ _ rfl fun i => by
    obtain ⟨b, n, rfl⟩ : ∃ (b : Fin 4) (n : Fin 576), i = ix3 b n 0 := ⟨i 0, i 1, funext fun a => by
      match a with
      | ⟨0, _⟩ => rfl
      | ⟨1, _⟩ => rfl
      | ⟨2, _⟩ => exact Subsingleton.elim (α := Fin 1) _ _⟩
    show IntOp.andi (IntOp.cmpi .sge (starts p (ix3 b n 0)) 0#32) (IntOp.cmpi .sle (starts p (ix3 b n 0)) 575#32) = 1#1
    rw [starts_at hp]
    exact checked (hp _)

end Cert.Proof.Val

end
-- ==== Proof.Val.Closed.lean ====
/-
  The reference in closed form: the element on line `y`, column `z` of channel `c` of image `b` lies in the patch at grid
  position `n = y / 16 * 24 + z / 16`; it is the element at the same place of the patch `s` that the permutation names
  for `n`.
-/
module

public import proofs.«01_k».proof.Proof.Val.Words

@[expose] public section

noncomputable section

namespace Cert.Proof.Val

open Cert.ReferenceIdeal Idealize.ShloMosaic Idealize.ShloMosaic.ValueIdx

/-- The grid position of an element's patch. -/
def patchOf (y z : Fin 384) : Fin 576 := ⟨y.val / 16 * 24 + z.val / 16, by omega⟩

variable {α : Type}

/-- The shuffled image at one position. -/
def shuffled (x : S4x96x384x384.Idx → α) (p : IVec S4x576 32) (hp : ∀ i, (p i).toNat < 576) (b : Fin 4) (c : Fin 96) (y z : Fin 384) : α :=
  x (ix4 b c ⟨(p (ix2 b (patchOf y z))).toNat / 24 * 16 + y.val % 16, by have := hp (ix2 b (patchOf y z)); omega⟩
    ⟨(p (ix2 b (patchOf y z))).toNat % 24 * 16 + z.val % 16, by omega⟩)

variable [Facts₀]
open Facts₀

/-- The image as an array of patches. -/
abbrev patches (x : S4x96x384x384.Idx → α) : S4x576x96x16x16.Idx → α :=
  shapeCast S4x576x96x16x16 (transpose S4x24x24x96x16x16 [0, 2, 4, 1, 3, 5]
      (shapeCast S4x96x24x16x24x16 x shapeCasts_S4x96x384x384_S4x96x24x16x24x16)
      transposes_S4x96x24x16x24x16_S4x24x24x96x16x16_0_2_4_1_3_5)
    shapeCasts_S4x24x24x96x16x16_S4x576x96x16x16

theorem patches_at (x : S4x96x384x384.Idx → α) (b : Fin 4) (n : Fin 576) (c : Fin 96) (y z : Fin 16) :
    patches x (ix5 b n c y z) = x (ix4 b c ⟨n.val / 24 * 16 + y.val, by omega⟩ ⟨n.val % 24 * 16 + z.val, by omega⟩) :=
  (numbered_at _ _ b n c y z).trans ((apart_at _ _ b _ _ c y z).trans (cut_at _ _ b c _ y _ z))

/-- The patches, shuffled; what fails the check is filled. -/
abbrev moved (x : S4x96x384x384.Idx → α) (p : IVec S4x576 32) (fill : S_.Idx → α) : S4x576x96x16x16.Idx → α :=
  select (broadcastInDim S4x576x96x16x16 ![0, 1] bcast_S4x576_S4x576x96x16x16_0_1 (inside p))
    (Host.gather gather_S4x576x96x16x16_S4x576x1_S4x576x96x16x16_234_1_0_0_1_2_11961616 (patches x) (starts p))
    (broadcastInDim S4x576x96x16x16 ![] bcast_S_S4x576x96x16x16 fill)

theorem moved_at (x : S4x96x384x384.Idx → α) {p : IVec S4x576 32} (hp : ∀ i, (p i).toNat < 576) (fill : S_.Idx → α)
    (b : Fin 4) (n : Fin 576) (c : Fin 96) (y z : Fin 16) :
    moved x p fill (ix5 b n c y z) = x (ix4 b c ⟨(p (ix2 b n)).toNat / 24 * 16 + y.val, by have := hp (ix2 b n); omega⟩
      ⟨(p (ix2 b n)).toNat % 24 * 16 + z.val, by omega⟩) := by
  have e : broadcastInDim S4x576x96x16x16 ![0, 1] bcast_S4x576_S4x576x96x16x16_0_1 (inside p) (ix5 b n c y z) = 1#1 :=
    inside_at hp _
  have g := taken_at (patches x) (starts p) b n c y z ⟨(p (ix2 b n)).toNat, hp _⟩
    ((starts_at hp b n).trans (BitVec.eq_of_toNat_eq (by have := hp (ix2 b n); rw [BitVec.toNat_ofNat, Nat.mod_eq_of_lt (by omega)])))
  refine Eq.trans ?_ (g.trans (patches_at x b _ c y z))
  show Scalar.select (broadcastInDim S4x576x96x16x16 ![0, 1] bcast_S4x576_S4x576x96x16x16_0_1 (inside p) (ix5 b n c y z)) _ _ = _
  rw [e]; rfl

/-- The reference's result, as its operations compose it. -/
abbrev composed (x : S4x96x384x384.Idx → α) (p : IVec S4x576 32) (fill : S_.Idx → α) : S4x96x384x384.Idx → α :=
  shapeCast S4x96x384x384 (transpose S4x96x24x16x24x16 [0, 3, 1, 4, 2, 5]
      (shapeCast S4x24x24x96x16x16 (moved x p fill) shapeCasts_S4x576x96x16x16_S4x24x24x96x16x16)
      transposes_S4x24x24x96x16x16_S4x96x24x16x24x16_0_3_1_4_2_5)
    shapeCasts_S4x96x24x16x24x16_S4x96x384x384

theorem composed_at (x : S4x96x384x384.Idx → α) {p : IVec S4x576 32} (hp : ∀ i, (p i).toNat < 576) (fill : S_.Idx → α)
    (b : Fin 4) (c : Fin 96) (y z : Fin 384) : composed x p fill (ix4 b c y z) = shuffled x p hp b c y z :=
  (image_at _ _ b c y z).trans ((back_at _ _ b c _ _ _ _).trans ((grid_at _ _ b _ _ c _ _).trans
    (moved_at x hp fill b (patchOf y z) c _ _)))

end Cert.Proof.Val

end
-- ==== Proof.Val.Kernel.lean ====
/-
  The kernel's result in the same closed form: row `r` of its output lies in the result at the element with the same
  row-major position, and the row it was filled from in the image likewise.
-/
module

public import proofs.«01_k».proof.Proof.KI.Frame
public import proofs.«01_k».proof.Proof.Val.Closed

@[expose] public section

noncomputable section

namespace Cert.Proof.Val

open Cert.KernelIdeal Cert.KernelIdeal.Gen Cert.Proof.Shuffle Idealize.ShloMosaic.ValueIdx
open Idealize.ShloMosaic hiding ix0 ix1 ix2 ix3 ix4 ix5

variable {α : Type}

/-- The row-number formula, at the row of an element of the image: the line and the row of sixteen read, spelt out. -/
theorem srcRow_image (p : ℕ → ℕ) (b : Fin 4) (c : Fin 96) (y z : Fin 384) (s : ℕ)
    (hs : p (b.val * 576 + (y.val / 16 * 24 + z.val / 16)) = s) :
    srcRow p (((b.val * 96 + c.val) * 384 + y.val) * 24 + z.val / 16)
      = ((b.val * 96 + c.val) * 384 + (s / 24 * 16 + y.val % 16)) * 24 + s % 24 := by
  have hy := y.isLt; have hz := z.isLt; have hb := b.isLt; have hc := c.isLt
  generalize hr : ((b.val * 96 + c.val) * 384 + y.val) * 24 + z.val / 16 = r
  have h1 : r % 9216 = y.val * 24 + z.val / 16 := by omega
  have h2 : r / 9216 = b.val * 96 + c.val := by omega
  have h3 : r / 884736 = b.val := by omega
  have h4 : gridPos (r % 9216) = y.val / 16 * 24 + z.val / 16 := by unfold gridPos; rw [h1]; omega
  unfold srcRow
  rw [h3, h4, hs, h2]
  unfold patchRow
  rw [h1, show (y.val * 24 + z.val / 16) / 24 % 16 = y.val % 16 by omega]
  omega

/-- An element's position in the image, by its line and column and by its row of sixteen. -/
theorem position_eq (q s y z : ℕ) :
    (q * 384 + (s / 24 * 16 + y % 16)) * 384 + (s % 24 * 16 + z % 16)
      = ((q * 384 + (s / 24 * 16 + y % 16)) * 24 + s % 24) * 16 + z % 16 := by omega

/-- An entry of the permutations, laid end to end. -/
theorem permAt_entry (p : S4x576.Idx → Elt Ideal .i32) (h : S4x576.ShapeCasts S2304) (b : Fin 4) (n : Fin 576) :
    KI.permAt (F := Ideal) (shapeCast S2304 p h) (b.val * 576 + n.val) = (p (ix2 b n)).toNat := by
  have hlt : b.val * 576 + n.val < 2304 := by omega
  unfold KI.permAt
  rw [dif_pos hlt]
  refine congrArg BitVec.toNat (shapeCast_at p h _ _ ?_)
  rw [Shape.rowMajor_val_two, Shape.rowMajor_val_one]
  rfl

/-- The kernel's result at one position. -/
theorem resOf_at (m : (ℓ : Loc nD τ sig) → Buf (Elt Ideal) ℓ) (d : Dev nD) (hok : KI.PreOK (F := Ideal) m)
    (hp : ∀ i : S4x576.Idx, ((m (KI.bLoc d) : S4x576.Idx → BitVec 32) i).toNat < 576)
    (b : Fin 4) (c : Fin 96) (y z : Fin 384) :
    (KI.resOf (F := Ideal) m d : S4x96x384x384.Idx → Ideal .f32) (ix4 b c y z)
      = shuffled (m (KI.aLoc d) : S4x96x384x384.Idx → Ideal .f32) (m (KI.bLoc d)) hp b c y z := by
  have hrow : ((b.val * 96 + c.val) * 384 + y.val) * 24 + z.val / 16 < 3538944 := by omega
  have hs := srcRow_image (KI.permAt (F := Ideal) (KI.prmOf m d)) b c y z _ (permAt_entry _ _ b (patchOf y z))
  refine (shapeCast_at _ _ _ (ix2 ⟨((b.val * 96 + c.val) * 384 + y.val) * 24 + z.val / 16, hrow⟩ ⟨z.val % 16, by omega⟩) ?_).trans
    ((KI.outV_apply _ (hok d) _).trans (shapeCast_at _ _ _ _ ?_))
  · rw [Shape.rowMajor_val_two, Shape.rowMajor_val_four]
    show (((b.val * 96 + c.val) * 384 + y.val) * 24 + z.val / 16) * 16 + z.val % 16
      = ((b.val * 96 + c.val) * 384 + y.val) * 384 + z.val
    omega
  · refine (Shape.rowMajor_val_four (d := ![4, 96, 384, 384]) _).trans
      (Eq.trans ?_ (Shape.rowMajor_val_two (d := ![3538944, 16]) _).symm)
    refine Eq.trans ?_ (congrArg (fun r => r * 16 + z.val % 16) hs).symm
    exact position_eq _ _ _ _

end Cert.Proof.Val

end
-- ==== Proof.Val.Equal.lean ====
/-
  The kernel and the reference compute the same array.
-/
module

public import proofs.«01_k».proof.Proof.Val.Kernel
public import proofs.«01_k».proof.Proof.Gen.ReferenceIdeal.Run

@[expose] public section

noncomputable section

namespace Cert.Proof.Val

open Idealize.ShloMosaic.ValueIdx Idealize.SL.Sem
open Idealize.ShloMosaic hiding ix0 ix1 ix2 ix3 ix4 ix5

/-- The reference's composed operations give the kernel's result. -/
theorem composed_eq (m : (ℓ : Loc Cert.KernelIdeal.nD Cert.KernelIdeal.τ Cert.KernelIdeal.sig) → Buf (Elt Ideal) ℓ)
    (h : Cert.Pre_KernelIdeal m) (d : Dev Cert.KernelIdeal.nD) (fill : Cert.ReferenceIdeal.S_.Idx → Ideal .f32) :
    composed (m (KI.aLoc d) : Cert.ReferenceIdeal.S4x96x384x384.Idx → Ideal .f32) (m (KI.bLoc d)) fill
      = KI.resOf (F := Ideal) m d := by
  have hp : ∀ i : Cert.ReferenceIdeal.S4x576.Idx, ((m (KI.bLoc d) : Cert.ReferenceIdeal.S4x576.Idx → BitVec 32) i).toNat < 576 :=
    fun i => InRange.of_fn _ _ (h d) i
  funext j
  obtain ⟨b, c, y, z, rfl⟩ : ∃ (b : Fin 4) (c : Fin 96) (y z : Fin 384), j = ix4 b c y z := ⟨_, _, _, _, ValueIdx.eq_ix4 j⟩
  exact (composed_at _ hp fill b c y z).trans (resOf_at m d (KI.ok_of_pre m h) hp b c y z).symm

/-- The value claim: on equal arguments in range, both programs end with the same result. -/
theorem algebraic : Cert.algebraic_KernelIdeal_ReferenceIdeal := fun m g m' g' h hag => by
  refine ⟨fun c => KI.resOf (F := Ideal) m c, ?_, ?_⟩
  · exact (θ_run Cert.KernelIdeal.defs _ _).mono (fun _ hr c => ⟨(hr.1 c).2.2, (hr.1 c).1, (hr.1 c).2.1⟩) (KI.run_pre m g h)
  · refine (θ_run Cert.ReferenceIdeal.defs _ _).mono (fun r hr c => ⟨?_, (hr c).2⟩) (Cert.ReferenceIdeal.Value.run (F := Ideal) m' g')
    refine (hr c).1.trans ?_
    rw [(hag c).1, (hag c).2]
    exact composed_eq m h c _

end Cert.Proof.Val

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.K.Frame
public import proofs.«01_k».proof.Proof.KI.Frame
public import proofs.«01_k».proof.Proof.Ref
public import proofs.«01_k».proof.Proof.Val.Equal
public import Idealize.ShloMosaic.Adequacy
public import Idealize.ShloMosaic.Init

@[expose] public section

noncomputable section

namespace Cert.Proof

open Idealize.ShloMosaic Idealize.SL.Sem Cert.Kernel

/-- All the claims of the certificate. -/
theorem claim : Cert.Claim :=
  ⟨Cert.Kernel.Gen.facts, Cert.KernelIdeal.Gen.facts, Cert.ReferenceIdeal.Gen.facts, Cert.Pre_in_range.Gen.facts,
    K.quiescent, KI.quiescent, Ref.quiescent, (fun m ρ _ => Ref.kept m ρ), trivial, Val.algebraic⟩

end Cert.Proof

end
